-- ==== Defs.lean ====
def Pre_Kernel [hPre_tokens : Cert.Pre_tokens.Facts] (m : (ℓ : Loc Cert.Kernel.nD Cert.Kernel.τ Cert.Kernel.sig) → Buf (Elt Bits) ℓ) : Prop :=
  ∀ c : Dev Cert.Kernel.nD,
    (Cert.Pre_tokens.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_tokens : Cert.Pre_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens [hPre_tokens : Cert.Pre_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_tokens : Cert.Pre_tokens.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_tokens : Cert.Pre_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tokens [hReferenceIdeal : Cert.ReferenceIdeal.Facts] [hPre_tokens : Cert.Pre_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tokens : Cert.Pre_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tokens : Cert.Pre_tokens.Facts),
    quiescent_Kernel (hKernel := hKernel) (hPre_tokens := hPre_tokens)
    ∧ quiescent_KernelIdeal (hKernelIdeal := hKernelIdeal) (hPre_tokens := hPre_tokens)
    ∧ quiescent_ReferenceIdeal (hReferenceIdeal := hReferenceIdeal)
    ∧ quiescent_ReferenceIdeal_pre_tokens (hReferenceIdeal := hReferenceIdeal) (hPre_tokens := hPre_tokens)
    ∧ preserves_Kernel_KernelIdeal
    ∧ algebraic_KernelIdeal_ReferenceIdeal (hKernelIdeal := hKernelIdeal) (hReferenceIdeal := hReferenceIdeal) (hPre_tokens := hPre_tokens)
-- ==== Pre_tokens.lean ====
abbrev S16384x50 : Shape := ⟨2, ![16384, 50]⟩
abbrev S39x48 : Shape := ⟨2, ![39, 48]⟩
abbrev S1x50x48 : Shape := ⟨3, ![1, 50, 48]⟩
abbrev S_ : Shape := ⟨0, ![]⟩

class Facts : Prop where
  bcast_S_S16384x50 : S_.BroadcastsInDim S16384x50 (![] : Fin 0 → Fin S16384x50.rank)
  reducesTo_S16384x50_S_d0_1 : S16384x50.ReducesTo [0, 1] S_
  h_S_ : 0 < S_.numel

variable [Facts]

def fn {F : FTy → Type} [FloatOps F] (main_arg0 : IVec S16384x50 32) (main_arg1 : FVec F S39x48 .f32) (main_arg2 : FVec F S1x50x48 .f32) : IVec S_ 1 :=
  let main_c : IVec S_ 32 := constantI S_ 32 0#32
  let main_v0 : IVec S16384x50 32 := broadcastInDim S16384x50 ![] bcast_S_S16384x50 main_c
  let main_v1 : IVec S16384x50 1 := cmpi .sge main_arg0 main_v0
  let main_c_0 : IVec S_ 32 := constantI S_ 32 39#32
  let main_v2 : IVec S16384x50 32 := broadcastInDim S16384x50 ![] bcast_S_S16384x50 main_c_0
  let main_v3 : IVec S16384x50 1 := cmpi .slt main_arg0 main_v2
  let main_v4 : IVec S16384x50 1 := andi main_v1 main_v3
  let main_c_1 : IVec S_ 1 := constantI S_ 1 1#1
  let main_v5 : IVec S_ 1 := (fun x v => Host.reduce IntOp.andi x v reducesTo_S16384x50_S_d0_1 h_S_) main_v4 main_c_1
  main_v5
-- ==== Kernel.lean ====
abbrev S16384x50 : Shape := ⟨2, ![16384, 50]⟩
abbrev S39x48 : Shape := ⟨2, ![39, 48]⟩
abbrev S1x50x48 : Shape := ⟨3, ![1, 50, 48]⟩
abbrev S819200 : Shape := ⟨1, ![819200]⟩
abbrev S50x48 : Shape := ⟨2, ![50, 48]⟩
abbrev S39x50x48 : Shape := ⟨3, ![39, 50, 48]⟩
abbrev S39x1x48 : Shape := ⟨3, ![39, 1, 48]⟩
abbrev S1950x48 : Shape := ⟨2, ![1950, 48]⟩
abbrev S_ : Shape := ⟨0, ![]⟩
abbrev S1950x128 : Shape := ⟨2, ![1950, 128]⟩
abbrev S204800 : Shape := ⟨1, ![204800]⟩
abbrev S204800x128 : Shape := ⟨2, ![204800, 128]⟩
abbrev S2x128 : Shape := ⟨2, ![2, 128]⟩
abbrev S2x128x128 : Shape := ⟨3, ![2, 128, 128]⟩
abbrev S192 : Shape := ⟨1, ![192]⟩
abbrev S16 : Shape := ⟨1, ![16]⟩
abbrev S1x128 : Shape := ⟨2, ![1, 128]⟩
abbrev S128 : Shape := ⟨1, ![128]⟩
abbrev S1x16 : Shape := ⟨2, ![1, 16]⟩
abbrev S1x128x128 : Shape := ⟨3, ![1, 128, 128]⟩
abbrev S128x128 : Shape := ⟨2, ![128, 128]⟩
abbrev S204800x48 : Shape := ⟨2, ![204800, 48]⟩
abbrev S4096x50x48 : Shape := ⟨3, ![4096, 50, 48]⟩
abbrev S16384x50x48 : Shape := ⟨3, ![16384, 50, 48]⟩

abbrev nBuf : Table → Nat
  | .hbm => 27
  | .local .tc .vmem => 3
  | .local .scVector .vmem => 16
  | _ => 0

abbrev bufTy : (tb : Table) → Fin (nBuf tb) → BufTy
  | .hbm, ⟨0, _⟩ => ⟨S16384x50, .i32⟩
  | .hbm, ⟨1, _⟩ => ⟨S39x48, .f32⟩
  | .hbm, ⟨2, _⟩ => ⟨S1x50x48, .f32⟩
  | .hbm, ⟨3, _⟩ => ⟨S819200, .i32⟩
  | .hbm, ⟨4, _⟩ => ⟨S50x48, .f32⟩
  | .hbm, ⟨5, _⟩ => ⟨S39x50x48, .f32⟩
  | .hbm, ⟨6, _⟩ => ⟨S1950x48, .f32⟩
  | .hbm, ⟨7, _⟩ => ⟨S_, .i32⟩
  | .hbm, ⟨8, _⟩ => ⟨S_, .f32⟩
  | .hbm, ⟨9, _⟩ => ⟨S1950x128, .f32⟩
  | .hbm, ⟨10, _⟩ => ⟨S204800, .i32⟩
  | .hbm, ⟨11, _⟩ => ⟨S204800x128, .f32⟩
  | .hbm, ⟨12, _⟩ => ⟨S204800, .i32⟩
  | .hbm, ⟨13, _⟩ => ⟨S204800x128, .f32⟩
  | .hbm, ⟨14, _⟩ => ⟨S204800, .i32⟩
  | .hbm, ⟨15, _⟩ => ⟨S204800x128, .f32⟩
  | .hbm, ⟨16, _⟩ => ⟨S204800, .i32⟩
  | .hbm, ⟨17, _⟩ => ⟨S204800x128, .f32⟩
  | .hbm, ⟨18, _⟩ => ⟨S204800x48, .f32⟩
  | .hbm, ⟨19, _⟩ => ⟨S4096x50x48, .f32⟩
  | .hbm, ⟨20, _⟩ => ⟨S204800x48, .f32⟩
  | .hbm, ⟨21, _⟩ => ⟨S4096x50x48, .f32⟩
  | .hbm, ⟨22, _⟩ => ⟨S204800x48, .f32⟩
  | .hbm, ⟨23, _⟩ => ⟨S4096x50x48, .f32⟩
  | .hbm, ⟨24, _⟩ => ⟨S204800x48, .f32⟩
  | .hbm, ⟨25, _⟩ => ⟨S4096x50x48, .f32⟩
  | .hbm, ⟨26, _⟩ => ⟨S16384x50x48, .f32⟩
  | .local .tc .vmem, ⟨0, _⟩ => ⟨S39x48, .f32⟩
  | .local .tc .vmem, ⟨1, _⟩ => ⟨S50x48, .f32⟩
  | .local .tc .vmem, ⟨2, _⟩ => ⟨S39x50x48, .f32⟩
  | .local .scVector .vmem, ⟨0, _⟩ => ⟨S2x128, .i32⟩
  | .local .scVector .vmem, ⟨1, _⟩ => ⟨S2x128, .i32⟩
  | .local .scVector .vmem, ⟨2, _⟩ => ⟨S2x128x128, .f32⟩
  | .local .scVector .vmem, ⟨3, _⟩ => ⟨S192, .i32⟩
  | .local .scVector .vmem, ⟨4, _⟩ => ⟨S2x128, .i32⟩
  | .local .scVector .vmem, ⟨5, _⟩ => ⟨S2x128, .i32⟩
  | .local .scVector .vmem, ⟨6, _⟩ => ⟨S2x128x128, .f32⟩
  | .local .scVector .vmem, ⟨7, _⟩ => ⟨S192, .i32⟩
  | .local .scVector .vmem, ⟨8, _⟩ => ⟨S2x128, .i32⟩
  | .local .scVector .vmem, ⟨9, _⟩ => ⟨S2x128, .i32⟩
  | .local .scVector .vmem, ⟨10, _⟩ => ⟨S2x128x128, .f32⟩
  | .local .scVector .vmem, ⟨11, _⟩ => ⟨S192, .i32⟩
  | .local .scVector .vmem, ⟨12, _⟩ => ⟨S2x128, .i32⟩
  | .local .scVector .vmem, ⟨13, _⟩ => ⟨S2x128, .i32⟩
  | .local .scVector .vmem, ⟨14, _⟩ => ⟨S2x128x128, .f32⟩
  | .local .scVector .vmem, ⟨15, _⟩ => ⟨S192, .i32⟩
  | _, _ => ⟨S16384x50, .i32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v5_scv : Ref sig .scVector := ⟨.hbm, 10, rfl⟩
abbrev main_v4_scv : Ref sig .scVector := ⟨.hbm, 9, rfl⟩
abbrev main_v6_scv : Ref sig .scVector := ⟨.hbm, 11, rfl⟩
abbrev main_v7_scv : Ref sig .scVector := ⟨.hbm, 12, rfl⟩
abbrev main_v8_scv : Ref sig .scVector := ⟨.hbm, 13, rfl⟩
abbrev main_v9_scv : Ref sig .scVector := ⟨.hbm, 14, rfl⟩
abbrev main_v10_scv : Ref sig .scVector := ⟨.hbm, 15, rfl⟩
abbrev main_v11_scv : Ref sig .scVector := ⟨.hbm, 16, rfl⟩
abbrev main_v12_scv : Ref sig .scVector := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc2_scratch0 : Ref sig .scVector := ⟨.vmem, 4, rfl⟩
abbrev cc2_scratch1 : Ref sig .scVector := ⟨.vmem, 5, rfl⟩
abbrev cc2_scratch2 : Ref sig .scVector := ⟨.vmem, 6, rfl⟩
abbrev cc2_scratch3 : Ref sig .scVector := ⟨.vmem, 7, rfl⟩
abbrev cc3_scratch0 : Ref sig .scVector := ⟨.vmem, 8, rfl⟩
abbrev cc3_scratch1 : Ref sig .scVector := ⟨.vmem, 9, rfl⟩
abbrev cc3_scratch2 : Ref sig .scVector := ⟨.vmem, 10, rfl⟩
abbrev cc3_scratch3 : Ref sig .scVector := ⟨.vmem, 11, rfl⟩
abbrev cc4_scratch0 : Ref sig .scVector := ⟨.vmem, 12, rfl⟩
abbrev cc4_scratch1 : Ref sig .scVector := ⟨.vmem, 13, rfl⟩
abbrev cc4_scratch2 : Ref sig .scVector := ⟨.vmem, 14, rfl⟩
abbrev cc4_scratch3 : Ref sig .scVector := ⟨.vmem, 15, rfl⟩
abbrev cc0_sem0_0 : DmaSem sig := 0
abbrev cc0_sem1_0 : DmaSem sig := 1
abbrev cc0_sem2_0 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S39x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S50x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S39x50x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) (c0_i32_23 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v124 : BitVec 32 := Scalar.addi v2 c0_i32_23
  ![v124.toNat]
@[reducible] def k1_t1_loop : Scf.Loop 32 :=
  let c0_i32_30 : BitVec 32 := 0#32
  let c25_i32 : BitVec 32 := 25#32
  let v138 : BitVec 32 := Scalar.addi c0_i32_30 c25_i32
  let c1_i32_31 : BitVec 32 := 1#32
  ⟨c0_i32_30, v138, c1_i32_31⟩
def k1_off2 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k1_t1
  let c2_i32_47 : BitVec 32 := 2#32
  let v154 : BitVec 32 := Scalar.muli arg14 c2_i32_47
  let c0_i32_48 : BitVec 32 := 0#32
  let v155 : BitVec 32 := Scalar.addi v154 c0_i32_48
  let c128_i32_49 : BitVec 32 := 128#32
  let v156 : BitVec 32 := Scalar.muli v155 c128_i32_49
  let v157 : BitVec 32 := Scalar.addi v2 v156
  ![v157.toNat]
def k1_off3 (arg15 : BitVec 32) (c0_i32_55 : BitVec 32) : Fin 1 → Nat :=
  let v167 : BitVec 32 := Scalar.addi arg15 c0_i32_55
  let v168 : Index := Scalar.indexCast v167
  ![v168.toNat]

def k1_cond1 (k1_t1 : Fin k1_t1_loop.trips) : BitVec 1 :=
  let c0_i32_30 : BitVec 32 := 0#32
  let c1_i32_31 : BitVec 32 := 1#32
  let arg14 : BitVec 32 := Scf.iv c0_i32_30 c1_i32_31 k1_t1
  let c2_i32_47 : BitVec 32 := 2#32
  let v154 : BitVec 32 := Scalar.muli arg14 c2_i32_47
  let c0_i32_48 : BitVec 32 := 0#32
  let v155 : BitVec 32 := Scalar.addi v154 c0_i32_48
  let c2_i32_100 : BitVec 32 := 2#32
  let v280 : BitVec 32 := Scalar.addi v155 c2_i32_100
  let c50_i32_101 : BitVec 32 := 50#32
  let v281 : BitVec 1 := Scalar.cmpi .slt v280 c50_i32_101
  let v282 : BitVec 32 := Scalar.extui v281
  let c0_i32_102 : BitVec 32 := 0#32
  let v283 : BitVec 1 := Scalar.cmpi .ne v282 c0_i32_102
  v283

def k1_off4 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k1_t1
  let c2_i32_47 : BitVec 32 := 2#32
  let v154 : BitVec 32 := Scalar.muli arg14 c2_i32_47
  let c0_i32_48 : BitVec 32 := 0#32
  let v155 : BitVec 32 := Scalar.addi v154 c0_i32_48
  let c128_i32_49 : BitVec 32 := 128#32
  let v156 : BitVec 32 := Scalar.muli v155 c128_i32_49
  let v157 : BitVec 32 := Scalar.addi v2 v156
  let c256_i32 : BitVec 32 := 256#32
  let v452 : BitVec 32 := Scalar.addi v157 c256_i32
  ![v452.toNat]
def k1_cond2 (k1_t1 : Fin k1_t1_loop.trips) : BitVec 1 :=
  let c0_i32_30 : BitVec 32 := 0#32
  let c1_i32_31 : BitVec 32 := 1#32
  let arg14 : BitVec 32 := Scf.iv c0_i32_30 c1_i32_31 k1_t1
  let c2_i32_47 : BitVec 32 := 2#32
  let v154 : BitVec 32 := Scalar.muli arg14 c2_i32_47
  let c0_i32_48 : BitVec 32 := 0#32
  let v155 : BitVec 32 := Scalar.addi v154 c0_i32_48
  let c2_i32_103 : BitVec 32 := 2#32
  let v284 : BitVec 1 := Scalar.cmpi .sge v155 c2_i32_103
  let v285 : BitVec 32 := Scalar.extui v284
  let c0_i32_104 : BitVec 32 := 0#32
  let v286 : BitVec 1 := Scalar.cmpi .ne v285 c0_i32_104
  v286

def k1_off5 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k1_t1
  let c2_i32_47 : BitVec 32 := 2#32
  let v154 : BitVec 32 := Scalar.muli arg14 c2_i32_47
  let c0_i32_48 : BitVec 32 := 0#32
  let v155 : BitVec 32 := Scalar.addi v154 c0_i32_48
  let c128_i32_49 : BitVec 32 := 128#32
  let v156 : BitVec 32 := Scalar.muli v155 c128_i32_49
  let v157 : BitVec 32 := Scalar.addi v2 v156
  let c256_i32 : BitVec 32 := 256#32
  let v452 : BitVec 32 := Scalar.subi v157 c256_i32
  let c0_i32_212 : BitVec 32 := 0#32
  ![v452.toNat, 0]
def k1_off6 (i : grid1.Coords) (k1_t1 : Fin k1_t1_loop.trips) (c0_i32_48 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k1_t1
  let c2_i32_47 : BitVec 32 := 2#32
  let v154 : BitVec 32 := Scalar.muli arg14 c2_i32_47
  let v155 : BitVec 32 := Scalar.addi v154 c0_i32_48
  let c128_i32_49 : BitVec 32 := 128#32
  let v156 : BitVec 32 := Scalar.muli v155 c128_i32_49
  let v157 : BitVec 32 := Scalar.addi v2 v156
  let c0_i32_122 : BitVec 32 := 0#32
  ![v157.toNat, 0]
def k1_off7 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k1_t1
  let c2_i32_126 : BitVec 32 := 2#32
  let v303 : BitVec 32 := Scalar.muli arg14 c2_i32_126
  let c1_i32_127 : BitVec 32 := 1#32
  let v304 : BitVec 32 := Scalar.addi v303 c1_i32_127
  let c128_i32_128 : BitVec 32 := 128#32
  let v305 : BitVec 32 := Scalar.muli v304 c128_i32_128
  let v306 : BitVec 32 := Scalar.addi v2 v305
  ![v306.toNat]
def k1_off8 (arg15 : BitVec 32) (c0_i32_134 : BitVec 32) : Fin 1 → Nat :=
  let c28_i32_97 : BitVec 32 := 28#32
  let v276 : BitVec 32 := Scalar.addi arg15 c28_i32_97
  let c50_i32_98 : BitVec 32 := 50#32
  let v277 : BitVec 1 := Scalar.cmpi .sge v276 c50_i32_98
  let c50_i32_99 : BitVec 32 := 50#32
  let v278 : BitVec 32 := Scalar.subi v276 c50_i32_99
  let v279 : BitVec 32 := Scalar.select v277 v278 v276
  let v316 : BitVec 32 := Scalar.addi v279 c0_i32_134
  let v317 : Index := Scalar.indexCast v316
  ![v317.toNat]

def k1_chk1 (arg15 : BitVec 32) : Prop :=
  (∀ (r : Fin 8), ∀ a, (k1_off3 arg15 (BitVec.ofNat 32 (16 * r.val))) a + S16.size a ≤ S192.size a) ∧
  (∀ (r : Fin 8), ∀ a, (k1_off8 arg15 (BitVec.ofNat 32 (16 * r.val))) a + S16.size a ≤ S192.size a)
theorem k1_off3_inb : ∀ (arg15 : BitVec 32) (k1_hw1 : k1_chk1 arg15), ∀ (r : Fin 8), ∀ a, (k1_off3 arg15 (BitVec.ofNat 32 (16 * r.val))) a + S16.size a ≤ S192.size a := fun arg15 k1_hw1 r => k1_hw1.1 r
theorem k1_off8_inb : ∀ (arg15 : BitVec 32) (k1_hw1 : k1_chk1 arg15), ∀ (r : Fin 8), ∀ a, (k1_off8 arg15 (BitVec.ofNat 32 (16 * r.val))) a + S16.size a ≤ S192.size a := fun arg15 k1_hw1 r => k1_hw1.2 r

def k1_cond3 (k1_t1 : Fin k1_t1_loop.trips) : BitVec 1 :=
  let c0_i32_30 : BitVec 32 := 0#32
  let c1_i32_31 : BitVec 32 := 1#32
  let arg14 : BitVec 32 := Scf.iv c0_i32_30 c1_i32_31 k1_t1
  let c2_i32_126 : BitVec 32 := 2#32
  let v303 : BitVec 32 := Scalar.muli arg14 c2_i32_126
  let c1_i32_127 : BitVec 32 := 1#32
  let v304 : BitVec 32 := Scalar.addi v303 c1_i32_127
  let c2_i32_183 : BitVec 32 := 2#32
  let v429 : BitVec 32 := Scalar.addi v304 c2_i32_183
  let c50_i32_184 : BitVec 32 := 50#32
  let v430 : BitVec 1 := Scalar.cmpi .slt v429 c50_i32_184
  let v431 : BitVec 32 := Scalar.extui v430
  let c0_i32_185 : BitVec 32 := 0#32
  let v432 : BitVec 1 := Scalar.cmpi .ne v431 c0_i32_185
  v432

def k1_off9 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k1_t1
  let c2_i32_126 : BitVec 32 := 2#32
  let v303 : BitVec 32 := Scalar.muli arg14 c2_i32_126
  let c1_i32_127 : BitVec 32 := 1#32
  let v304 : BitVec 32 := Scalar.addi v303 c1_i32_127
  let c128_i32_128 : BitVec 32 := 128#32
  let v305 : BitVec 32 := Scalar.muli v304 c128_i32_128
  let v306 : BitVec 32 := Scalar.addi v2 v305
  let c256_i32 : BitVec 32 := 256#32
  let v452 : BitVec 32 := Scalar.addi v306 c256_i32
  ![v452.toNat]
def k1_cond4 (k1_t1 : Fin k1_t1_loop.trips) : BitVec 1 :=
  let c0_i32_30 : BitVec 32 := 0#32
  let c1_i32_31 : BitVec 32 := 1#32
  let arg14 : BitVec 32 := Scf.iv c0_i32_30 c1_i32_31 k1_t1
  let c2_i32_126 : BitVec 32 := 2#32
  let v303 : BitVec 32 := Scalar.muli arg14 c2_i32_126
  let c1_i32_127 : BitVec 32 := 1#32
  let v304 : BitVec 32 := Scalar.addi v303 c1_i32_127
  let c2_i32_186 : BitVec 32 := 2#32
  let v433 : BitVec 1 := Scalar.cmpi .sge v304 c2_i32_186
  let v434 : BitVec 32 := Scalar.extui v433
  let c0_i32_187 : BitVec 32 := 0#32
  let v435 : BitVec 1 := Scalar.cmpi .ne v434 c0_i32_187
  v435

def k1_off10 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k1_t1
  let c2_i32_126 : BitVec 32 := 2#32
  let v303 : BitVec 32 := Scalar.muli arg14 c2_i32_126
  let c1_i32_127 : BitVec 32 := 1#32
  let v304 : BitVec 32 := Scalar.addi v303 c1_i32_127
  let c128_i32_128 : BitVec 32 := 128#32
  let v305 : BitVec 32 := Scalar.muli v304 c128_i32_128
  let v306 : BitVec 32 := Scalar.addi v2 v305
  let c256_i32 : BitVec 32 := 256#32
  let v452 : BitVec 32 := Scalar.subi v306 c256_i32
  let c0_i32_212 : BitVec 32 := 0#32
  ![v452.toNat, 0]
def k1_off11 (i : grid1.Coords) (c6144_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v140 : BitVec 32 := Scalar.addi v2 c6144_i32
  let c0_i32_36 : BitVec 32 := 0#32
  ![v140.toNat, 0]
abbrev grid2 : Pipeline.Grid := ⟨2, ![2, 16], ![false, false]⟩

def k2_off1 (i : grid2.Coords) (c0_i32_23 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v124 : BitVec 32 := Scalar.addi v2 c0_i32_23
  ![v124.toNat]
@[reducible] def k2_t1_loop : Scf.Loop 32 :=
  let c0_i32_30 : BitVec 32 := 0#32
  let c25_i32 : BitVec 32 := 25#32
  let v138 : BitVec 32 := Scalar.addi c0_i32_30 c25_i32
  let c1_i32_31 : BitVec 32 := 1#32
  ⟨c0_i32_30, v138, c1_i32_31⟩
def k2_off2 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k2_t1
  let c2_i32_47 : BitVec 32 := 2#32
  let v154 : BitVec 32 := Scalar.muli arg14 c2_i32_47
  let c0_i32_48 : BitVec 32 := 0#32
  let v155 : BitVec 32 := Scalar.addi v154 c0_i32_48
  let c128_i32_49 : BitVec 32 := 128#32
  let v156 : BitVec 32 := Scalar.muli v155 c128_i32_49
  let v157 : BitVec 32 := Scalar.addi v2 v156
  ![v157.toNat]
def k2_off3 (arg15 : BitVec 32) (c0_i32_55 : BitVec 32) : Fin 1 → Nat :=
  let v167 : BitVec 32 := Scalar.addi arg15 c0_i32_55
  let v168 : Index := Scalar.indexCast v167
  ![v168.toNat]

def k2_cond1 (k2_t1 : Fin k2_t1_loop.trips) : BitVec 1 :=
  let c0_i32_30 : BitVec 32 := 0#32
  let c1_i32_31 : BitVec 32 := 1#32
  let arg14 : BitVec 32 := Scf.iv c0_i32_30 c1_i32_31 k2_t1
  let c2_i32_47 : BitVec 32 := 2#32
  let v154 : BitVec 32 := Scalar.muli arg14 c2_i32_47
  let c0_i32_48 : BitVec 32 := 0#32
  let v155 : BitVec 32 := Scalar.addi v154 c0_i32_48
  let c2_i32_100 : BitVec 32 := 2#32
  let v280 : BitVec 32 := Scalar.addi v155 c2_i32_100
  let c50_i32_101 : BitVec 32 := 50#32
  let v281 : BitVec 1 := Scalar.cmpi .slt v280 c50_i32_101
  let v282 : BitVec 32 := Scalar.extui v281
  let c0_i32_102 : BitVec 32 := 0#32
  let v283 : BitVec 1 := Scalar.cmpi .ne v282 c0_i32_102
  v283

def k2_off4 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k2_t1
  let c2_i32_47 : BitVec 32 := 2#32
  let v154 : BitVec 32 := Scalar.muli arg14 c2_i32_47
  let c0_i32_48 : BitVec 32 := 0#32
  let v155 : BitVec 32 := Scalar.addi v154 c0_i32_48
  let c128_i32_49 : BitVec 32 := 128#32
  let v156 : BitVec 32 := Scalar.muli v155 c128_i32_49
  let v157 : BitVec 32 := Scalar.addi v2 v156
  let c256_i32 : BitVec 32 := 256#32
  let v452 : BitVec 32 := Scalar.addi v157 c256_i32
  ![v452.toNat]
def k2_cond2 (k2_t1 : Fin k2_t1_loop.trips) : BitVec 1 :=
  let c0_i32_30 : BitVec 32 := 0#32
  let c1_i32_31 : BitVec 32 := 1#32
  let arg14 : BitVec 32 := Scf.iv c0_i32_30 c1_i32_31 k2_t1
  let c2_i32_47 : BitVec 32 := 2#32
  let v154 : BitVec 32 := Scalar.muli arg14 c2_i32_47
  let c0_i32_48 : BitVec 32 := 0#32
  let v155 : BitVec 32 := Scalar.addi v154 c0_i32_48
  let c2_i32_103 : BitVec 32 := 2#32
  let v284 : BitVec 1 := Scalar.cmpi .sge v155 c2_i32_103
  let v285 : BitVec 32 := Scalar.extui v284
  let c0_i32_104 : BitVec 32 := 0#32
  let v286 : BitVec 1 := Scalar.cmpi .ne v285 c0_i32_104
  v286

def k2_off5 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k2_t1
  let c2_i32_47 : BitVec 32 := 2#32
  let v154 : BitVec 32 := Scalar.muli arg14 c2_i32_47
  let c0_i32_48 : BitVec 32 := 0#32
  let v155 : BitVec 32 := Scalar.addi v154 c0_i32_48
  let c128_i32_49 : BitVec 32 := 128#32
  let v156 : BitVec 32 := Scalar.muli v155 c128_i32_49
  let v157 : BitVec 32 := Scalar.addi v2 v156
  let c256_i32 : BitVec 32 := 256#32
  let v452 : BitVec 32 := Scalar.subi v157 c256_i32
  let c0_i32_212 : BitVec 32 := 0#32
  ![v452.toNat, 0]
def k2_off6 (i : grid2.Coords) (k2_t1 : Fin k2_t1_loop.trips) (c0_i32_48 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k2_t1
  let c2_i32_47 : BitVec 32 := 2#32
  let v154 : BitVec 32 := Scalar.muli arg14 c2_i32_47
  let v155 : BitVec 32 := Scalar.addi v154 c0_i32_48
  let c128_i32_49 : BitVec 32 := 128#32
  let v156 : BitVec 32 := Scalar.muli v155 c128_i32_49
  let v157 : BitVec 32 := Scalar.addi v2 v156
  let c0_i32_122 : BitVec 32 := 0#32
  ![v157.toNat, 0]
def k2_off7 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k2_t1
  let c2_i32_126 : BitVec 32 := 2#32
  let v303 : BitVec 32 := Scalar.muli arg14 c2_i32_126
  let c1_i32_127 : BitVec 32 := 1#32
  let v304 : BitVec 32 := Scalar.addi v303 c1_i32_127
  let c128_i32_128 : BitVec 32 := 128#32
  let v305 : BitVec 32 := Scalar.muli v304 c128_i32_128
  let v306 : BitVec 32 := Scalar.addi v2 v305
  ![v306.toNat]
def k2_off8 (arg15 : BitVec 32) (c0_i32_134 : BitVec 32) : Fin 1 → Nat :=
  let c28_i32_97 : BitVec 32 := 28#32
  let v276 : BitVec 32 := Scalar.addi arg15 c28_i32_97
  let c50_i32_98 : BitVec 32 := 50#32
  let v277 : BitVec 1 := Scalar.cmpi .sge v276 c50_i32_98
  let c50_i32_99 : BitVec 32 := 50#32
  let v278 : BitVec 32 := Scalar.subi v276 c50_i32_99
  let v279 : BitVec 32 := Scalar.select v277 v278 v276
  let v316 : BitVec 32 := Scalar.addi v279 c0_i32_134
  let v317 : Index := Scalar.indexCast v316
  ![v317.toNat]

def k2_chk1 (arg15 : BitVec 32) : Prop :=
  (∀ (r : Fin 8), ∀ a, (k2_off3 arg15 (BitVec.ofNat 32 (16 * r.val))) a + S16.size a ≤ S192.size a) ∧
  (∀ (r : Fin 8), ∀ a, (k2_off8 arg15 (BitVec.ofNat 32 (16 * r.val))) a + S16.size a ≤ S192.size a)
theorem k2_off3_inb : ∀ (arg15 : BitVec 32) (k2_hw1 : k2_chk1 arg15), ∀ (r : Fin 8), ∀ a, (k2_off3 arg15 (BitVec.ofNat 32 (16 * r.val))) a + S16.size a ≤ S192.size a := fun arg15 k2_hw1 r => k2_hw1.1 r
theorem k2_off8_inb : ∀ (arg15 : BitVec 32) (k2_hw1 : k2_chk1 arg15), ∀ (r : Fin 8), ∀ a, (k2_off8 arg15 (BitVec.ofNat 32 (16 * r.val))) a + S16.size a ≤ S192.size a := fun arg15 k2_hw1 r => k2_hw1.2 r

def k2_cond3 (k2_t1 : Fin k2_t1_loop.trips) : BitVec 1 :=
  let c0_i32_30 : BitVec 32 := 0#32
  let c1_i32_31 : BitVec 32 := 1#32
  let arg14 : BitVec 32 := Scf.iv c0_i32_30 c1_i32_31 k2_t1
  let c2_i32_126 : BitVec 32 := 2#32
  let v303 : BitVec 32 := Scalar.muli arg14 c2_i32_126
  let c1_i32_127 : BitVec 32 := 1#32
  let v304 : BitVec 32 := Scalar.addi v303 c1_i32_127
  let c2_i32_183 : BitVec 32 := 2#32
  let v429 : BitVec 32 := Scalar.addi v304 c2_i32_183
  let c50_i32_184 : BitVec 32 := 50#32
  let v430 : BitVec 1 := Scalar.cmpi .slt v429 c50_i32_184
  let v431 : BitVec 32 := Scalar.extui v430
  let c0_i32_185 : BitVec 32 := 0#32
  let v432 : BitVec 1 := Scalar.cmpi .ne v431 c0_i32_185
  v432

def k2_off9 (i : grid2.Coords) (k2_t1 : Fin k2_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k2_t1
  let c2_i32_126 : BitVec 32 := 2#32
  let v303 : BitVec 32 := Scalar.muli arg14 c2_i32_126
  let c1_i32_127 : BitVec 32 := 1#32
  let v304 : BitVec 32 := Scalar.addi v303 c1_i32_127
  let c128_i32_128 : BitVec 32 := 128#32
  let v305 : BitVec 32 := Scalar.muli v304 c128_i32_128
  let v306 : BitVec 32 := Scalar.addi v2 v305
  let c256_i32 : BitVec 32 := 256#32
  let v452 : BitVec 32 := Scalar.addi v306 c256_i32
  ![v452.toNat]
def k2_cond4 (k2_t1 : Fin k2_t1_loop.trips) : BitVec 1 :=
  let c0_i32_30 : BitVec 32 := 0#32
  let c1_i32_31 : BitVec 32 := 1#32
  let arg14 : BitVec 32 := Scf.iv c0_i32_30 c1_i32_31 k2_t1
  let c2_i32_126 : BitVec 32 := 2#32
  let v303 : BitVec 32 := Scalar.muli arg14 c2_i32_126
  let c1_i32_127 : BitVec 32 := 1#32
  let v304 : BitVec 32 := Scalar.addi v303 c1_i32_127
  let c2_i32_186 : BitVec 32 := 2#32
  let v433 : BitVec 1 := Scalar.cmpi .sge v304 c2_i32_186
  let v434 : BitVec 32 := Scalar.extui v433
  let c0_i32_187 : BitVec 32 := 0#32
  let v435 : BitVec 1 := Scalar.cmpi .ne v434 c0_i32_187
  v435

def k2_off10 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k2_t1
  let c2_i32_126 : BitVec 32 := 2#32
  let v303 : BitVec 32 := Scalar.muli arg14 c2_i32_126
  let c1_i32_127 : BitVec 32 := 1#32
  let v304 : BitVec 32 := Scalar.addi v303 c1_i32_127
  let c128_i32_128 : BitVec 32 := 128#32
  let v305 : BitVec 32 := Scalar.muli v304 c128_i32_128
  let v306 : BitVec 32 := Scalar.addi v2 v305
  let c256_i32 : BitVec 32 := 256#32
  let v452 : BitVec 32 := Scalar.subi v306 c256_i32
  let c0_i32_212 : BitVec 32 := 0#32
  ![v452.toNat, 0]
def k2_off11 (i : grid2.Coords) (c6144_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v140 : BitVec 32 := Scalar.addi v2 c6144_i32
  let c0_i32_36 : BitVec 32 := 0#32
  ![v140.toNat, 0]
abbrev grid3 : Pipeline.Grid := ⟨2, ![2, 16], ![false, false]⟩

def k3_off1 (i : grid3.Coords) (c0_i32_23 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v124 : BitVec 32 := Scalar.addi v2 c0_i32_23
  ![v124.toNat]
@[reducible] def k3_t1_loop : Scf.Loop 32 :=
  let c0_i32_30 : BitVec 32 := 0#32
  let c25_i32 : BitVec 32 := 25#32
  let v138 : BitVec 32 := Scalar.addi c0_i32_30 c25_i32
  let c1_i32_31 : BitVec 32 := 1#32
  ⟨c0_i32_30, v138, c1_i32_31⟩
def k3_off2 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k3_t1
  let c2_i32_47 : BitVec 32 := 2#32
  let v154 : BitVec 32 := Scalar.muli arg14 c2_i32_47
  let c0_i32_48 : BitVec 32 := 0#32
  let v155 : BitVec 32 := Scalar.addi v154 c0_i32_48
  let c128_i32_49 : BitVec 32 := 128#32
  let v156 : BitVec 32 := Scalar.muli v155 c128_i32_49
  let v157 : BitVec 32 := Scalar.addi v2 v156
  ![v157.toNat]
def k3_off3 (arg15 : BitVec 32) (c0_i32_55 : BitVec 32) : Fin 1 → Nat :=
  let v167 : BitVec 32 := Scalar.addi arg15 c0_i32_55
  let v168 : Index := Scalar.indexCast v167
  ![v168.toNat]

def k3_cond1 (k3_t1 : Fin k3_t1_loop.trips) : BitVec 1 :=
  let c0_i32_30 : BitVec 32 := 0#32
  let c1_i32_31 : BitVec 32 := 1#32
  let arg14 : BitVec 32 := Scf.iv c0_i32_30 c1_i32_31 k3_t1
  let c2_i32_47 : BitVec 32 := 2#32
  let v154 : BitVec 32 := Scalar.muli arg14 c2_i32_47
  let c0_i32_48 : BitVec 32 := 0#32
  let v155 : BitVec 32 := Scalar.addi v154 c0_i32_48
  let c2_i32_100 : BitVec 32 := 2#32
  let v280 : BitVec 32 := Scalar.addi v155 c2_i32_100
  let c50_i32_101 : BitVec 32 := 50#32
  let v281 : BitVec 1 := Scalar.cmpi .slt v280 c50_i32_101
  let v282 : BitVec 32 := Scalar.extui v281
  let c0_i32_102 : BitVec 32 := 0#32
  let v283 : BitVec 1 := Scalar.cmpi .ne v282 c0_i32_102
  v283

def k3_off4 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k3_t1
  let c2_i32_47 : BitVec 32 := 2#32
  let v154 : BitVec 32 := Scalar.muli arg14 c2_i32_47
  let c0_i32_48 : BitVec 32 := 0#32
  let v155 : BitVec 32 := Scalar.addi v154 c0_i32_48
  let c128_i32_49 : BitVec 32 := 128#32
  let v156 : BitVec 32 := Scalar.muli v155 c128_i32_49
  let v157 : BitVec 32 := Scalar.addi v2 v156
  let c256_i32 : BitVec 32 := 256#32
  let v452 : BitVec 32 := Scalar.addi v157 c256_i32
  ![v452.toNat]
def k3_cond2 (k3_t1 : Fin k3_t1_loop.trips) : BitVec 1 :=
  let c0_i32_30 : BitVec 32 := 0#32
  let c1_i32_31 : BitVec 32 := 1#32
  let arg14 : BitVec 32 := Scf.iv c0_i32_30 c1_i32_31 k3_t1
  let c2_i32_47 : BitVec 32 := 2#32
  let v154 : BitVec 32 := Scalar.muli arg14 c2_i32_47
  let c0_i32_48 : BitVec 32 := 0#32
  let v155 : BitVec 32 := Scalar.addi v154 c0_i32_48
  let c2_i32_103 : BitVec 32 := 2#32
  let v284 : BitVec 1 := Scalar.cmpi .sge v155 c2_i32_103
  let v285 : BitVec 32 := Scalar.extui v284
  let c0_i32_104 : BitVec 32 := 0#32
  let v286 : BitVec 1 := Scalar.cmpi .ne v285 c0_i32_104
  v286

def k3_off5 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k3_t1
  let c2_i32_47 : BitVec 32 := 2#32
  let v154 : BitVec 32 := Scalar.muli arg14 c2_i32_47
  let c0_i32_48 : BitVec 32 := 0#32
  let v155 : BitVec 32 := Scalar.addi v154 c0_i32_48
  let c128_i32_49 : BitVec 32 := 128#32
  let v156 : BitVec 32 := Scalar.muli v155 c128_i32_49
  let v157 : BitVec 32 := Scalar.addi v2 v156
  let c256_i32 : BitVec 32 := 256#32
  let v452 : BitVec 32 := Scalar.subi v157 c256_i32
  let c0_i32_212 : BitVec 32 := 0#32
  ![v452.toNat, 0]
def k3_off6 (i : grid3.Coords) (k3_t1 : Fin k3_t1_loop.trips) (c0_i32_48 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k3_t1
  let c2_i32_47 : BitVec 32 := 2#32
  let v154 : BitVec 32 := Scalar.muli arg14 c2_i32_47
  let v155 : BitVec 32 := Scalar.addi v154 c0_i32_48
  let c128_i32_49 : BitVec 32 := 128#32
  let v156 : BitVec 32 := Scalar.muli v155 c128_i32_49
  let v157 : BitVec 32 := Scalar.addi v2 v156
  let c0_i32_122 : BitVec 32 := 0#32
  ![v157.toNat, 0]
def k3_off7 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k3_t1
  let c2_i32_126 : BitVec 32 := 2#32
  let v303 : BitVec 32 := Scalar.muli arg14 c2_i32_126
  let c1_i32_127 : BitVec 32 := 1#32
  let v304 : BitVec 32 := Scalar.addi v303 c1_i32_127
  let c128_i32_128 : BitVec 32 := 128#32
  let v305 : BitVec 32 := Scalar.muli v304 c128_i32_128
  let v306 : BitVec 32 := Scalar.addi v2 v305
  ![v306.toNat]
def k3_off8 (arg15 : BitVec 32) (c0_i32_134 : BitVec 32) : Fin 1 → Nat :=
  let c28_i32_97 : BitVec 32 := 28#32
  let v276 : BitVec 32 := Scalar.addi arg15 c28_i32_97
  let c50_i32_98 : BitVec 32 := 50#32
  let v277 : BitVec 1 := Scalar.cmpi .sge v276 c50_i32_98
  let c50_i32_99 : BitVec 32 := 50#32
  let v278 : BitVec 32 := Scalar.subi v276 c50_i32_99
  let v279 : BitVec 32 := Scalar.select v277 v278 v276
  let v316 : BitVec 32 := Scalar.addi v279 c0_i32_134
  let v317 : Index := Scalar.indexCast v316
  ![v317.toNat]

def k3_chk1 (arg15 : BitVec 32) : Prop :=
  (∀ (r : Fin 8), ∀ a, (k3_off3 arg15 (BitVec.ofNat 32 (16 * r.val))) a + S16.size a ≤ S192.size a) ∧
  (∀ (r : Fin 8), ∀ a, (k3_off8 arg15 (BitVec.ofNat 32 (16 * r.val))) a + S16.size a ≤ S192.size a)
theorem k3_off3_inb : ∀ (arg15 : BitVec 32) (k3_hw1 : k3_chk1 arg15), ∀ (r : Fin 8), ∀ a, (k3_off3 arg15 (BitVec.ofNat 32 (16 * r.val))) a + S16.size a ≤ S192.size a := fun arg15 k3_hw1 r => k3_hw1.1 r
theorem k3_off8_inb : ∀ (arg15 : BitVec 32) (k3_hw1 : k3_chk1 arg15), ∀ (r : Fin 8), ∀ a, (k3_off8 arg15 (BitVec.ofNat 32 (16 * r.val))) a + S16.size a ≤ S192.size a := fun arg15 k3_hw1 r => k3_hw1.2 r

def k3_cond3 (k3_t1 : Fin k3_t1_loop.trips) : BitVec 1 :=
  let c0_i32_30 : BitVec 32 := 0#32
  let c1_i32_31 : BitVec 32 := 1#32
  let arg14 : BitVec 32 := Scf.iv c0_i32_30 c1_i32_31 k3_t1
  let c2_i32_126 : BitVec 32 := 2#32
  let v303 : BitVec 32 := Scalar.muli arg14 c2_i32_126
  let c1_i32_127 : BitVec 32 := 1#32
  let v304 : BitVec 32 := Scalar.addi v303 c1_i32_127
  let c2_i32_183 : BitVec 32 := 2#32
  let v429 : BitVec 32 := Scalar.addi v304 c2_i32_183
  let c50_i32_184 : BitVec 32 := 50#32
  let v430 : BitVec 1 := Scalar.cmpi .slt v429 c50_i32_184
  let v431 : BitVec 32 := Scalar.extui v430
  let c0_i32_185 : BitVec 32 := 0#32
  let v432 : BitVec 1 := Scalar.cmpi .ne v431 c0_i32_185
  v432

def k3_off9 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k3_t1
  let c2_i32_126 : BitVec 32 := 2#32
  let v303 : BitVec 32 := Scalar.muli arg14 c2_i32_126
  let c1_i32_127 : BitVec 32 := 1#32
  let v304 : BitVec 32 := Scalar.addi v303 c1_i32_127
  let c128_i32_128 : BitVec 32 := 128#32
  let v305 : BitVec 32 := Scalar.muli v304 c128_i32_128
  let v306 : BitVec 32 := Scalar.addi v2 v305
  let c256_i32 : BitVec 32 := 256#32
  let v452 : BitVec 32 := Scalar.addi v306 c256_i32
  ![v452.toNat]
def k3_cond4 (k3_t1 : Fin k3_t1_loop.trips) : BitVec 1 :=
  let c0_i32_30 : BitVec 32 := 0#32
  let c1_i32_31 : BitVec 32 := 1#32
  let arg14 : BitVec 32 := Scf.iv c0_i32_30 c1_i32_31 k3_t1
  let c2_i32_126 : BitVec 32 := 2#32
  let v303 : BitVec 32 := Scalar.muli arg14 c2_i32_126
  let c1_i32_127 : BitVec 32 := 1#32
  let v304 : BitVec 32 := Scalar.addi v303 c1_i32_127
  let c2_i32_186 : BitVec 32 := 2#32
  let v433 : BitVec 1 := Scalar.cmpi .sge v304 c2_i32_186
  let v434 : BitVec 32 := Scalar.extui v433
  let c0_i32_187 : BitVec 32 := 0#32
  let v435 : BitVec 1 := Scalar.cmpi .ne v434 c0_i32_187
  v435

def k3_off10 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k3_t1
  let c2_i32_126 : BitVec 32 := 2#32
  let v303 : BitVec 32 := Scalar.muli arg14 c2_i32_126
  let c1_i32_127 : BitVec 32 := 1#32
  let v304 : BitVec 32 := Scalar.addi v303 c1_i32_127
  let c128_i32_128 : BitVec 32 := 128#32
  let v305 : BitVec 32 := Scalar.muli v304 c128_i32_128
  let v306 : BitVec 32 := Scalar.addi v2 v305
  let c256_i32 : BitVec 32 := 256#32
  let v452 : BitVec 32 := Scalar.subi v306 c256_i32
  let c0_i32_212 : BitVec 32 := 0#32
  ![v452.toNat, 0]
def k3_off11 (i : grid3.Coords) (c6144_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v140 : BitVec 32 := Scalar.addi v2 c6144_i32
  let c0_i32_36 : BitVec 32 := 0#32
  ![v140.toNat, 0]
abbrev grid4 : Pipeline.Grid := ⟨2, ![2, 16], ![false, false]⟩

def k4_off1 (i : grid4.Coords) (c0_i32_23 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v124 : BitVec 32 := Scalar.addi v2 c0_i32_23
  ![v124.toNat]
@[reducible] def k4_t1_loop : Scf.Loop 32 :=
  let c0_i32_30 : BitVec 32 := 0#32
  let c25_i32 : BitVec 32 := 25#32
  let v138 : BitVec 32 := Scalar.addi c0_i32_30 c25_i32
  let c1_i32_31 : BitVec 32 := 1#32
  ⟨c0_i32_30, v138, c1_i32_31⟩
def k4_off2 (i : grid4.Coords) (k4_t1 : Fin k4_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k4_t1
  let c2_i32_47 : BitVec 32 := 2#32
  let v154 : BitVec 32 := Scalar.muli arg14 c2_i32_47
  let c0_i32_48 : BitVec 32 := 0#32
  let v155 : BitVec 32 := Scalar.addi v154 c0_i32_48
  let c128_i32_49 : BitVec 32 := 128#32
  let v156 : BitVec 32 := Scalar.muli v155 c128_i32_49
  let v157 : BitVec 32 := Scalar.addi v2 v156
  ![v157.toNat]
def k4_off3 (arg15 : BitVec 32) (c0_i32_55 : BitVec 32) : Fin 1 → Nat :=
  let v167 : BitVec 32 := Scalar.addi arg15 c0_i32_55
  let v168 : Index := Scalar.indexCast v167
  ![v168.toNat]

def k4_cond1 (k4_t1 : Fin k4_t1_loop.trips) : BitVec 1 :=
  let c0_i32_30 : BitVec 32 := 0#32
  let c1_i32_31 : BitVec 32 := 1#32
  let arg14 : BitVec 32 := Scf.iv c0_i32_30 c1_i32_31 k4_t1
  let c2_i32_47 : BitVec 32 := 2#32
  let v154 : BitVec 32 := Scalar.muli arg14 c2_i32_47
  let c0_i32_48 : BitVec 32 := 0#32
  let v155 : BitVec 32 := Scalar.addi v154 c0_i32_48
  let c2_i32_100 : BitVec 32 := 2#32
  let v280 : BitVec 32 := Scalar.addi v155 c2_i32_100
  let c50_i32_101 : BitVec 32 := 50#32
  let v281 : BitVec 1 := Scalar.cmpi .slt v280 c50_i32_101
  let v282 : BitVec 32 := Scalar.extui v281
  let c0_i32_102 : BitVec 32 := 0#32
  let v283 : BitVec 1 := Scalar.cmpi .ne v282 c0_i32_102
  v283

def k4_off4 (i : grid4.Coords) (k4_t1 : Fin k4_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k4_t1
  let c2_i32_47 : BitVec 32 := 2#32
  let v154 : BitVec 32 := Scalar.muli arg14 c2_i32_47
  let c0_i32_48 : BitVec 32 := 0#32
  let v155 : BitVec 32 := Scalar.addi v154 c0_i32_48
  let c128_i32_49 : BitVec 32 := 128#32
  let v156 : BitVec 32 := Scalar.muli v155 c128_i32_49
  let v157 : BitVec 32 := Scalar.addi v2 v156
  let c256_i32 : BitVec 32 := 256#32
  let v452 : BitVec 32 := Scalar.addi v157 c256_i32
  ![v452.toNat]
def k4_cond2 (k4_t1 : Fin k4_t1_loop.trips) : BitVec 1 :=
  let c0_i32_30 : BitVec 32 := 0#32
  let c1_i32_31 : BitVec 32 := 1#32
  let arg14 : BitVec 32 := Scf.iv c0_i32_30 c1_i32_31 k4_t1
  let c2_i32_47 : BitVec 32 := 2#32
  let v154 : BitVec 32 := Scalar.muli arg14 c2_i32_47
  let c0_i32_48 : BitVec 32 := 0#32
  let v155 : BitVec 32 := Scalar.addi v154 c0_i32_48
  let c2_i32_103 : BitVec 32 := 2#32
  let v284 : BitVec 1 := Scalar.cmpi .sge v155 c2_i32_103
  let v285 : BitVec 32 := Scalar.extui v284
  let c0_i32_104 : BitVec 32 := 0#32
  let v286 : BitVec 1 := Scalar.cmpi .ne v285 c0_i32_104
  v286

def k4_off5 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k4_t1
  let c2_i32_47 : BitVec 32 := 2#32
  let v154 : BitVec 32 := Scalar.muli arg14 c2_i32_47
  let c0_i32_48 : BitVec 32 := 0#32
  let v155 : BitVec 32 := Scalar.addi v154 c0_i32_48
  let c128_i32_49 : BitVec 32 := 128#32
  let v156 : BitVec 32 := Scalar.muli v155 c128_i32_49
  let v157 : BitVec 32 := Scalar.addi v2 v156
  let c256_i32 : BitVec 32 := 256#32
  let v452 : BitVec 32 := Scalar.subi v157 c256_i32
  let c0_i32_212 : BitVec 32 := 0#32
  ![v452.toNat, 0]
def k4_off6 (i : grid4.Coords) (k4_t1 : Fin k4_t1_loop.trips) (c0_i32_48 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k4_t1
  let c2_i32_47 : BitVec 32 := 2#32
  let v154 : BitVec 32 := Scalar.muli arg14 c2_i32_47
  let v155 : BitVec 32 := Scalar.addi v154 c0_i32_48
  let c128_i32_49 : BitVec 32 := 128#32
  let v156 : BitVec 32 := Scalar.muli v155 c128_i32_49
  let v157 : BitVec 32 := Scalar.addi v2 v156
  let c0_i32_122 : BitVec 32 := 0#32
  ![v157.toNat, 0]
def k4_off7 (i : grid4.Coords) (k4_t1 : Fin k4_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k4_t1
  let c2_i32_126 : BitVec 32 := 2#32
  let v303 : BitVec 32 := Scalar.muli arg14 c2_i32_126
  let c1_i32_127 : BitVec 32 := 1#32
  let v304 : BitVec 32 := Scalar.addi v303 c1_i32_127
  let c128_i32_128 : BitVec 32 := 128#32
  let v305 : BitVec 32 := Scalar.muli v304 c128_i32_128
  let v306 : BitVec 32 := Scalar.addi v2 v305
  ![v306.toNat]
def k4_off8 (arg15 : BitVec 32) (c0_i32_134 : BitVec 32) : Fin 1 → Nat :=
  let c28_i32_97 : BitVec 32 := 28#32
  let v276 : BitVec 32 := Scalar.addi arg15 c28_i32_97
  let c50_i32_98 : BitVec 32 := 50#32
  let v277 : BitVec 1 := Scalar.cmpi .sge v276 c50_i32_98
  let c50_i32_99 : BitVec 32 := 50#32
  let v278 : BitVec 32 := Scalar.subi v276 c50_i32_99
  let v279 : BitVec 32 := Scalar.select v277 v278 v276
  let v316 : BitVec 32 := Scalar.addi v279 c0_i32_134
  let v317 : Index := Scalar.indexCast v316
  ![v317.toNat]

def k4_chk1 (arg15 : BitVec 32) : Prop :=
  (∀ (r : Fin 8), ∀ a, (k4_off3 arg15 (BitVec.ofNat 32 (16 * r.val))) a + S16.size a ≤ S192.size a) ∧
  (∀ (r : Fin 8), ∀ a, (k4_off8 arg15 (BitVec.ofNat 32 (16 * r.val))) a + S16.size a ≤ S192.size a)
theorem k4_off3_inb : ∀ (arg15 : BitVec 32) (k4_hw1 : k4_chk1 arg15), ∀ (r : Fin 8), ∀ a, (k4_off3 arg15 (BitVec.ofNat 32 (16 * r.val))) a + S16.size a ≤ S192.size a := fun arg15 k4_hw1 r => k4_hw1.1 r
theorem k4_off8_inb : ∀ (arg15 : BitVec 32) (k4_hw1 : k4_chk1 arg15), ∀ (r : Fin 8), ∀ a, (k4_off8 arg15 (BitVec.ofNat 32 (16 * r.val))) a + S16.size a ≤ S192.size a := fun arg15 k4_hw1 r => k4_hw1.2 r

def k4_cond3 (k4_t1 : Fin k4_t1_loop.trips) : BitVec 1 :=
  let c0_i32_30 : BitVec 32 := 0#32
  let c1_i32_31 : BitVec 32 := 1#32
  let arg14 : BitVec 32 := Scf.iv c0_i32_30 c1_i32_31 k4_t1
  let c2_i32_126 : BitVec 32 := 2#32
  let v303 : BitVec 32 := Scalar.muli arg14 c2_i32_126
  let c1_i32_127 : BitVec 32 := 1#32
  let v304 : BitVec 32 := Scalar.addi v303 c1_i32_127
  let c2_i32_183 : BitVec 32 := 2#32
  let v429 : BitVec 32 := Scalar.addi v304 c2_i32_183
  let c50_i32_184 : BitVec 32 := 50#32
  let v430 : BitVec 1 := Scalar.cmpi .slt v429 c50_i32_184
  let v431 : BitVec 32 := Scalar.extui v430
  let c0_i32_185 : BitVec 32 := 0#32
  let v432 : BitVec 1 := Scalar.cmpi .ne v431 c0_i32_185
  v432

def k4_off9 (i : grid4.Coords) (k4_t1 : Fin k4_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k4_t1
  let c2_i32_126 : BitVec 32 := 2#32
  let v303 : BitVec 32 := Scalar.muli arg14 c2_i32_126
  let c1_i32_127 : BitVec 32 := 1#32
  let v304 : BitVec 32 := Scalar.addi v303 c1_i32_127
  let c128_i32_128 : BitVec 32 := 128#32
  let v305 : BitVec 32 := Scalar.muli v304 c128_i32_128
  let v306 : BitVec 32 := Scalar.addi v2 v305
  let c256_i32 : BitVec 32 := 256#32
  let v452 : BitVec 32 := Scalar.addi v306 c256_i32
  ![v452.toNat]
def k4_cond4 (k4_t1 : Fin k4_t1_loop.trips) : BitVec 1 :=
  let c0_i32_30 : BitVec 32 := 0#32
  let c1_i32_31 : BitVec 32 := 1#32
  let arg14 : BitVec 32 := Scf.iv c0_i32_30 c1_i32_31 k4_t1
  let c2_i32_126 : BitVec 32 := 2#32
  let v303 : BitVec 32 := Scalar.muli arg14 c2_i32_126
  let c1_i32_127 : BitVec 32 := 1#32
  let v304 : BitVec 32 := Scalar.addi v303 c1_i32_127
  let c2_i32_186 : BitVec 32 := 2#32
  let v433 : BitVec 1 := Scalar.cmpi .sge v304 c2_i32_186
  let v434 : BitVec 32 := Scalar.extui v433
  let c0_i32_187 : BitVec 32 := 0#32
  let v435 : BitVec 1 := Scalar.cmpi .ne v434 c0_i32_187
  v435

def k4_off10 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_30 : BitVec 32 := 0#32
  let c1_i32_31 : BitVec 32 := 1#32
  let arg14 : BitVec 32 := Scf.iv c0_i32_30 c1_i32_31 k4_t1
  let c2_i32_126 : BitVec 32 := 2#32
  let v303 : BitVec 32 := Scalar.muli arg14 c2_i32_126
  let c1_i32_127 : BitVec 32 := 1#32
  let v304 : BitVec 32 := Scalar.addi v303 c1_i32_127
  let c128_i32_128 : BitVec 32 := 128#32
  let v305 : BitVec 32 := Scalar.muli v304 c128_i32_128
  let v306 : BitVec 32 := Scalar.addi v2 v305
  let c256_i32 : BitVec 32 := 256#32
  let v452 : BitVec 32 := Scalar.subi v306 c256_i32
  let c0_i32_212 : BitVec 32 := 0#32
  ![v452.toNat, 0]
def k4_off11 (i : grid4.Coords) (c6144_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v140 : BitVec 32 := Scalar.addi v2 c6144_i32
  let c0_i32_36 : BitVec 32 := 0#32
  ![v140.toNat, 0]
abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S16384x50 : Shape := ⟨2, ![16384, 50]⟩
abbrev S39x48 : Shape := ⟨2, ![39, 48]⟩
abbrev S1x50x48 : Shape := ⟨3, ![1, 50, 48]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x48 : Shape := ⟨3, ![16384, 50, 48]⟩

abbrev nBuf : Space → Nat
  | .hbm => 28
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S39x48, .f32⟩
  | .hbm, ⟨2, _⟩ => ⟨S1x50x48, .f32⟩
  | .hbm, ⟨3, _⟩ => ⟨S_, .i32⟩
  | .hbm, ⟨4, _⟩ => ⟨S16384x50, .i32⟩
  | .hbm, ⟨5, _⟩ => ⟨S16384x50, .i1⟩
  | .hbm, ⟨6, _⟩ => ⟨S_, .i32⟩
  | .hbm, ⟨7, _⟩ => ⟨S16384x50, .i32⟩
  | .hbm, ⟨8, _⟩ => ⟨S16384x50, .i32⟩
  | .hbm, ⟨9, _⟩ => ⟨S16384x50, .i32⟩
  | .hbm, ⟨10, _⟩ => ⟨S16384x50x1, .i32⟩
  | .hbm, ⟨11, _⟩ => ⟨S1, .i32⟩
  | .hbm, ⟨12, _⟩ => ⟨S_, .i32⟩
  | .hbm, ⟨13, _⟩ => ⟨S16384x50x1, .i32⟩
  | .hbm, ⟨14, _⟩ => ⟨S16384x50x1, .i1⟩
  | .hbm, ⟨15, _⟩ => ⟨S1x1x1, .i32⟩
  | .hbm, ⟨16, _⟩ => ⟨S16384x50x1, .i32⟩
  | .hbm, ⟨17, _⟩ => ⟨S16384x50x1, .i1⟩
  | .hbm, ⟨18, _⟩ => ⟨S16384x50x1, .i1⟩
  | .hbm, ⟨19, _⟩ => ⟨S_, .i1⟩
  | .hbm, ⟨20, _⟩ => ⟨S16384x50, .i1⟩
  | .hbm, ⟨21, _⟩ => ⟨S16384x50x48, .f32⟩
  | .hbm, ⟨22, _⟩ => ⟨S16384x50x48, .i1⟩
  | .hbm, ⟨23, _⟩ => ⟨S_, .f32⟩
  | .hbm, ⟨24, _⟩ => ⟨S16384x50x48, .f32⟩
  | .hbm, ⟨25, _⟩ => ⟨S16384x50x48, .f32⟩
  | .hbm, ⟨26, _⟩ => ⟨S16384x50x48, .f32⟩
  | .hbm, ⟨27, _⟩ => ⟨S16384x50x48, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]
-- ==== Proof.Common.lean ====
/-
  The program as the launch theorem sees it, and the resource algebra every module of this proof is stated over: the
  four SparseCore calls' configuration, the body table below them, the handshakes' rounds and the transfers' counters.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels below the SparseCore calls: the kernels' and the table call's pipeline. -/
abbrev ΛP : Labels := Pipeline.Sig Λ₀ (Fin 1) fun p => (pcfgs (F := F) p).Adm
/-- The four SparseCore calls. -/
abbrev K : SparseCore.Cfg τ sig (ΛP (F := F)) 4 := sc (F := F)
/-- The body table below the SparseCore calls. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side facts: its semaphores are distinct and unscoped, and no task shares a table. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The rounds of the table call's staging cells. -/
abbrev UP : Type := URounds (GSem nD τ sig) Unit
abbrev UU : Type := UH × (UP × Counters)
/-- The resources: memory, semaphores and tallies, with the rounds and counters as ghost state. -/
abbrev MM (F : FTy → Type) : Type := MT nD τ sig (HIx 4) (Elt F) ℕ UU ℕ

abbrev EH : Emb UH (MT nD τ sig (HIx 4) (Elt F) ℕ UU ℕ) := embL
/-- The staging cells' rounds: the middle factor. -/
def EP : Emb UP (MT nD τ sig (HIx 4) (Elt F) ℕ UU ℕ) :=
  ((Emb.inl : Emb UP (UP × Counters)).trans (Emb.inr : Emb (UP × Counters) UU)).trans
    (uEmb (nD := nD) (sig := sig) (Ix := HIx 4) (Val := Elt F) (Name := ℕ) (U := UU) (Lvl := ℕ)).toEmb

instance EP_landsIn : (EP : Emb UP (MT nD τ sig (HIx 4) (Elt F) ℕ UU ℕ)).LandsIn
    (upEmb : UEmb _ (MT nD τ sig (HIx 4) (Elt F) ℕ UU ℕ)) := by unfold EP; infer_instance

/-- The launch's ghost state splits into the handshakes' and the staging cells'. -/
theorem ownU_split (a : UH) (b : UP) : (ownU ((a, (b, 1)) : UU) : sProp (MT nD τ sig (HIx 4) (Elt F) ℕ UU ℕ))
    ⊢ iprop(BI.own (EH (F := F) a) ∗ BI.own (EP (F := F) b)) :=
  BI.own_op_elim ((uEmb (nD := nD) (sig := sig) (Ix := HIx 4) (Val := Elt F) (Name := ℕ) (U := UU) (Lvl := ℕ)).toEmb.op_of_mem
    (Prod.mk_mem_op (URA.mem_op_one a) (URA.mem_one_op (b, 1))))

end Cert.Proof
-- ==== Proof.Table.lean ====
/-
  The table call: one grid point, the embedding weights and the position codes staged whole, and the body storing their
  sum. Its kernel region is stated over the TensorCore's unscoped buffers at any valuation: it leaves them as they were but
  for the table, which holds every weight row beside every position's code added. While it runs the core owes the four
  SparseCore calls' start signals, and the waits it records are at the lowest level.
-/
module

public import proofs.«01_k».proof.Proof.Common
public import proofs.«01_k».proof.Proof.Gen.KernelIdeal.Launch
public import proofs.«01_k».proof.Proof.Gen.KernelIdeal.Points
public import Idealize.ShloMosaic.Lib.Pipeline.RegionsLoop

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 4) (Elt F) ℕ UU ℕ

/-- The body from its three staging buffers: the third ends at the sum of the first two. -/
theorem table_run (c : Dev nD) (E : Set ℕ) (f0 : Buf (Elt F) ((c : Thread nD τ).loc cc0_stg0_0)) (f1 : Buf (Elt F) ((c : Thread nD τ).loc cc0_stg1_0))
    (f2 : Buf (Elt F) ((c : Thread nD τ).loc cc0_stg2_0)) (Q : PUnit → sProp (MT nD τ sig (HIx 4) (Elt F) ℕ UU ℕ)) :
    iprop((((c : Thread nD τ).loc cc0_stg0_0) ↦{fullShare} f0) ∗ (((c : Thread nD τ).loc cc0_stg1_0) ↦{fullShare} f1)
        ∗ (((c : Thread nD τ).loc cc0_stg2_0) ↦{fullShare} f2)
        ∗ (iprop((((c : Thread nD τ).loc cc0_stg0_0) ↦{fullShare} f0) ∗ (((c : Thread nD τ).loc cc0_stg1_0) ↦{fullShare} f1)
            ∗ (((c : Thread nD τ).loc cc0_stg2_0) ↦{fullShare} (k0_pay1 f0 f1 : S39x50x48.Idx → F .f32))) -∗ Q ⟨⟩))
      ⊢ wp frame (wpE (defs₀ (F := F)) 𝒱₀ c none) E
          (cc0__table_body (Memref.whole cc0_stg0_0) (Memref.isWhole_whole _) (Memref.whole cc0_stg1_0) (Memref.isWhole_whole _)
            (Memref.whole cc0_stg2_0) (Memref.isWhole_whole _)) Q := by
  rw [cc0__table_body_eq_skeleton]
  unfold cc0__table_body_skel
  simp only [Prog.lift, Prog.bind_op, Prog.bind_ret]
  iintro ⟨H0, H1, H2, Hk⟩
  sl_steps
  iapply Hk
  have hz2 : (![0, 0] : Fin 2 → ℕ) = fun _ => 0 := funext fun a => by fin_cases a <;> rfl
  have hz3 : (![0, 0, 0] : Fin 3 → ℕ) = fun _ => 0 := funext fun a => by fin_cases a <;> rfl
  have hr0 : (Memref.whole cc0_stg0_0 : Memref sig .tc _ _ _).view.readAt (Elt F) (Rect.unit (s := S39x48) ![0, 0]
      S39x48.size inb_S39x48_S39x48_0_0).toLoadRect f0 = f0 := Memref.readAt_unit_zero (Elt F) cc0_stg0_0 hz2 _ f0
  have hr1 : (Memref.whole cc0_stg1_0 : Memref sig .tc _ _ _).view.readAt (Elt F) (Rect.unit (s := S50x48) ![0, 0]
      S50x48.size inb_S50x48_S50x48_0_0).toLoadRect f1 = f1 := Memref.readAt_unit_zero (Elt F) cc0_stg1_0 hz2 _ f1
  have hw2 : ∀ w, ((Memref.whole cc0_stg2_0).access (Rect.unit (s := S39x50x48) ![0, 0, 0] S39x50x48.size
      inb_S39x50x48_S39x50x48_0_0_0) : View sig .tc _ _ _).write (Elt F) f2 w Finset.univ = w :=
    Memref.write_access_unit_zero_univ (Elt F) cc0_stg2_0 hz3 _ f2
  rw [hr0, hr1, hw2]
  isplitl [H0]; · iexact H0
  isplitl [H1]; · iexact H1
  iexact H2

/-- The unscoped buffers' contents when the region is entered. -/
abbrev Bufs (F : FTy → Type) : Type := (c : Dev nD) → (b : Ref sig .tc) → Buf (Elt F) ((c : Thread nD τ).loc b)

variable (V : Bufs F)

/-- What the table holds after the call: the sum of the weights and the codes. -/
def tableOf (c : Dev nD) : Buf (Elt F) ((c : Thread nD τ).loc main_v2) :=
  (k0_pay1 (V c main_arg1 : S39x48.Idx → F .f32) (V c main_v1 : S50x48.Idx → F .f32) : S39x50x48.Idx → F .f32)

/-- The proof data: the arrays as found; after the body the inputs' buffers as fetched and the output's at the sum; the
    core owing the four calls' starts; and every recorded wait at the lowest level. -/
def tdat (c : Dev nD) : Dat τ (Elt F) (HIx 4) ℕ UU ℕ cfg0 c where
  A w := V c (Pipeline.arrRef spec0 w)
  after w _ := match w with
    | ⟨0, _⟩ => (V c main_arg1 : S39x48.Idx → F .f32)
    | ⟨1, _⟩ => (V c main_v1 : S50x48.Idx → F .f32)
    | ⟨2, _⟩ => (tableOf V c : S39x50x48.Idx → F .f32)
  Φ _ := BI.emp
  q _ := fullShare
  owed _ := (K (F := F)).Otc c 0
  recorded _ := {p | (K (F := F)).lev (N := 4) ((T c : Thread nD τ), p.1) p.2 ≤ 0}

abbrev adm : (p : Fin 1) → (pcfgs (F := F) p).Adm := fun p => (cfgs p).toPCfg_adm

def pdats : (p : Fin 1) → (c : Dev nD) → Dat τ (Elt F) (HIx 4) ℕ UU ℕ (Pipeline.pin (pcfgs (F := F)) adm p) c
  | ⟨0, _⟩ => fun c => tdat V c

/-- Each window's block at the one point is its whole array. -/
theorem read_0 (c : Dev nD) (f : Buf (Elt F) ((T c : Thread nD τ).loc main_arg1)) : (win0_0.blk t0_0).view.read (Elt F) f = f :=
  Memref.read_access_unit_zero (Elt F) main_arg1 (show (fun a => (win0_0.index t0_0) a * main_arg1.ty.shape.size a) = fun _ => 0 from
    funext fun a => by fin_cases a <;> decide) (fun a => by fin_cases a <;> decide) f
theorem read_1 (c : Dev nD) (f : Buf (Elt F) ((T c : Thread nD τ).loc main_v1)) : (win0_1.blk t0_0).view.read (Elt F) f = f :=
  Memref.read_access_unit_zero (Elt F) main_v1 (show (fun a => (win0_1.index t0_0) a * main_v1.ty.shape.size a) = fun _ => 0 from
    funext fun a => by fin_cases a <;> decide) (fun a => by fin_cases a <;> decide) f
theorem read_2 (c : Dev nD) (f : Buf (Elt F) ((T c : Thread nD τ).loc main_v2)) : (win0_2.blk t0_0).view.read (Elt F) f = f :=
  Memref.read_access_unit_zero (Elt F) main_v2 (show (fun a => (win0_2.index t0_0) a * main_v2.ty.shape.size a) = fun _ => 0 from
    funext fun a => by fin_cases a <;> decide) (fun a => by fin_cases a <;> decide) f

/-- What the core owes is never owed at the lowest index. -/
theorem owes_none (c : Dev nD) (g : GSem nD τ sig) : (K (F := F)).Otc (N := 4) c 0 g none = 0 := by
  by_contra h
  have h1 := SparseCore.Cfg.lev_of_Otc_pos (K := K (F := F)) (Nat.pos_of_ne_zero h)
  have h2 : (K (F := F)).lev (N := 4) g none = 0 := rfl
  omega

theorem before_0 (c : Dev nD) (d : (cfg0.win 0).block.Idx → Elt F (cfg0.win 0).elt) :
    (tdat V c).before 0 t0_0 d = (V c main_arg1 : S39x48.Idx → F .f32) := by
  unfold Dat.before; rw [if_pos (by decide)]
  show (cfg0.win 0).fill _ d ((win0_0.blk t0_0).view.read (Elt F) (V c main_arg1)) = _
  rw [read_0 c]; exact funext fun _ => rfl

theorem before_1 (c : Dev nD) (d : (cfg0.win 1).block.Idx → Elt F (cfg0.win 1).elt) :
    (tdat V c).before 1 t0_0 d = (V c main_v1 : S50x48.Idx → F .f32) := by
  unfold Dat.before; rw [if_pos (by decide)]
  show (cfg0.win 1).fill _ d ((win0_1.blk t0_0).view.read (Elt F) (V c main_v1)) = _
  rw [read_1 c]; exact funext fun _ => rfl

/-- The body meets its obligation at the one point. -/
theorem table_body (c : Dev nD) : BodyObligation (tdat V c) (defs₀ (F := F)) 𝒱₀ (none : HIx 4) Set.univ := fun t => by
  obtain rfl := fin_N0 t
  rw [bigSep_W0, bigSep_W0]
  simp only [owns_whole_eq]
  rw [show (tdat V c).Φ t0_0.castSucc = BI.emp from rfl, show (tdat V c).Φ t0_0.succ = BI.emp from rfl,
    show (tdat V c).owesAt (none : HIx 4) t0_0.succ = (tdat V c).owesAt (none : HIx 4) t0_0.castSucc from rfl]
  iintro ⟨-, Ho, ⟨%d0, %f0, %hf0, H0⟩, ⟨%d1, %f1, %hf1, H1⟩, ⟨%d2, %f2, -, H2⟩⟩
  rw [before_0] at hf0
  rw [before_1] at hf1
  subst hf0; subst hf1
  iapply (table_run c Set.univ _ _ f2 _)
  isplitl [H0]; · iexact H0
  isplitl [H1]; · iexact H1
  isplitl [H2]; · iexact H2
  iintro ⟨H0, H1, H2⟩
  isplitr; · iempintro
  isplitl [Ho]; · iexact Ho
  isplitl [H0]; · iexists _; isplitr; swap; (· iexact H0); ipureintro; dsimp only [tdat]
  isplitl [H1]; · iexists _; isplitr; swap; (· iexact H1); ipureintro; dsimp only [tdat]
  iexists _; isplitr; swap; (· iexact H2); ipureintro; dsimp only [tdat]; rfl

/-- The output's array ends at the sum. -/
theorem table_at (c : Dev nD) : (tdat V c).arrAt 2 cfg0.N = tableOf V c := by
  have hw : ((cfg0.win 2).blk t0_0).view.read (Elt F) ((tdat V c).arrAt 2 cfg0.N) = (tdat V c).flushed 2 t0_0 := by
    rw [show cfg0.N = t0_0.val + 1 from rfl, (tdat V c).arrAt_succ (2 : Fin 3) t0_0, flush0_2, if_pos rfl]
    exact View.read_write_univ _ _
  rw [show (tdat V c).flushed 2 t0_0 = tableOf V c from by
    show (cfg0.win 2).cut _ ((tdat V c).after 2 t0_0) = _
    exact funext fun _ => rfl] at hw
  exact (read_2 c _).symm.trans hw

variable (Vp : Bufs F)

set_option backward.isDefEq.respectTransparency.types false in
/-- The kernel region, entered with the unscoped buffers at `V`, left with them at any `Vp` that has the sum in the table
    and agrees with `V` elsewhere. -/
def tableReg (hout : ∀ c, Vp c main_v2 = tableOf V c) (hne : ∀ c (b : Ref sig .tc), b ≠ main_v2 → Vp c b = V c b) :
    Pipeline.RegionSeg (pcfgs (F := F)) adm (pdats V) (none : HIx 4) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (table_body V c).loose
  hwaits c := Pipeline.cellsWaits_intro _ _ _ 0 c fun w s t =>
    (K (F := F)).mayWait_none _ fun g => owes_none c g
  pre c := iprop(unscopedBufs c (V c) ∗ ∃ W, ⌜(K (F := F)).WBelow (T c) W 0⌝ ∗ owes (T c) ((K (F := F)).Otc c 0) W)
  post c := iprop(unscopedBufs c (Vp c) ∗ ∃ W, ⌜(K (F := F)).WBelow (T c) W 0⌝ ∗ owes (T c) ((K (F := F)).Otc c 0) W)
  X _ := BI.emp
  Y _ := BI.emp
  Z c := Pipeline.unscopedRest (Ix := HIx 4) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V 0 c).Φ 0 = BI.emp from rfl]
    iintro -; iempintro
  hout c := by
    rw [Pipeline.ownSems0_none, show (pdats V 0 c).Φ (Fin.last _) = BI.emp from rfl, scopedRest0_eq]
    iintro -
    isplitr; · iempintro
    isplitr <;> iempintro
  hexit c := by
    have hjoin := Pipeline.unscopedBufs_of_arrays (p := 0) (pcfgs (F := F)) adm (Ix := HIx 4) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hne c main_arg1 (by decide)).symm
        · exact ((pdats V 0 c).arrAt_in 1 rfl _).trans (hne c main_v1 (by decide)).symm
        · exact (table_at V c).trans (hout c).symm)
      (fun b hb => hne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact Nat.le_refl 0
    iexact HO

/-- The call as the program without the SparseCores' own calls has it. -/
def tableProg : Prog (TpuEff nD τ sig (Elt F) (ΛP (F := F)) .tc) PUnit := .op (.customCall (Pipeline.entry 0) ()) .ret

/-- What the core holds before the first SparseCore call but for what it owes. -/
abbrev tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q : Fin 4 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_zero (d : Dev nD) : ((K (F := F)).tcSt EH d 0 : sProp 𝕄)
    = iprop((∃ W, ⌜(K (F := F)).WBelow (T d) W 0⌝ ∗ owes (T d) ((K (F := F)).Otc d 0) W) ∗ tcRest (F := F) d) := rfl

/-- The call itself, from a core that holds what the launch gives it before the first SparseCore call. -/
theorem table_call (hout : ∀ c, Vp c main_v2 = tableOf V c) (hne : ∀ c (b : Ref sig .tc), b ≠ main_v2 → Vp c b = V c b) (d : Dev nD)
    {Q : PUnit → sProp (MT nD τ sig (HIx 4) (Elt F) ℕ UU ℕ)} :
    iprop((iprop(boundary (T d) ∗ unscopedBufs d (Vp d) ∗ (K (F := F)).tcSt EH d 0) -∗ Q ⟨⟩)
        ∗ boundary (T d) ∗ unscopedBufs d (V d) ∗ (K (F := F)).tcSt EH d 0 ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ
          (Prog.lift (.customCall (SparseCore.inner (Pipeline.entry 0)) ())) Q := by
  have hl := (K (F := F)).wp_liftProg (D (F := F)) 𝒱 (T d : Thread nD τ) Set.univ none (tableProg (F := F)) Q
  refine BI.Entails.trans ?_ hl
  have hreg := Pipeline.RegionSeg.wp (pcfgs (F := F)) adm (pdats V) (none : HIx 4) cellOf_inj EP defs₀ 𝒱₀ (K (F := F)).L (K (F := F)).lev
    (tableReg V Vp hout hne) d none (fun _ h => nomatch h) .ret Q
  refine BI.Entails.trans ?_ hreg
  rw [tcSt_zero]
  change iprop(_) ⊢ iprop((iprop(boundary (T d) ∗ (unscopedBufs d (Vp d) ∗ ∃ W, ⌜(K (F := F)).WBelow (T d) W 0⌝ ∗ owes (T d) ((K (F := F)).Otc d 0) W))
      -∗ wp frame (wpE (Pipeline.defs (pcfgs (F := F)) defs₀) 𝒱₀.lift (T d) none) Set.univ (Prog.ret PUnit.unit) Q)
    ∗ boundary (T d) ∗ (unscopedBufs d (V d) ∗ ∃ W, ⌜(K (F := F)).WBelow (T d) W 0⌝ ∗ owes (T d) ((K (F := F)).Otc d 0) W)
    ∗ levAts (K (F := F)).L (K (F := F)).lev
    ∗ Pipeline.cellsGhost (Pipeline.pin (pcfgs (F := F)) adm) EP 0 d ∗ Pipeline.toksInit (Pipeline.pin (pcfgs (F := F)) adm) EP 0 d)
  iintro ⟨Hk, Hb, Hub, ⟨HO, Hrest⟩, Hlv, Hg, Ht⟩
  isplitl [Hk Hrest]
  · iintro ⟨Hb, Hub, HO⟩
    rw [wp_ret]
    imodintro
    iapply Hk
    isplitl [Hb]; · iexact Hb
    isplitl [Hub]; · iexact Hub
    isplitl [HO]; · iexact HO
    iexact Hrest
  isplitl [Hb]; · iexact Hb
  isplitl [Hub HO]
  · isplitl [Hub]; · iexact Hub
    iexact HO
  isplitl [Hlv]; · iexact Hlv
  isplitl [Hg] <;> iassumption

end Cert.Proof
-- ==== Proof.Slots.lean ====
/-
  One tile's buffers: the two slots of its lists and of its rows, the windows of its chunks in the index array and in
  the output, and what the proof holds of each. Chunk `n` of a tile is the 128 rows from `base + 128 n`, and passes
  through slot `n % 2`.
-/
module

public import proofs.«01_k».proof.Proof.Common
public import Idealize.ShloMosaic.Lib.ValueLayout
public import Idealize.ShloMosaic.Lib.ViewIndex
public import Idealize.ShloMosaic.Lib.Writes

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

/-- What one tile's task is called with: its device and coordinates, the index array, the table, the output, the two
    lists, the rows, the offsets, and its five transfer semaphores. -/
structure Tl where
  d : Dev nD
  i : grid1.Coords
  a2 : Memref sig .scVector .hbm S204800 .i32
  h2 : a2.IsWhole
  a3 : Memref sig .scVector .hbm S1950x128 .f32
  h3 : a3.IsWhole
  a4 : Memref sig .scVector .hbm S204800x128 .f32
  h4 : a4.IsWhole
  a5 : Memref sig .scVector .vmem S2x128 .i32
  h5 : a5.IsWhole
  a6 : Memref sig .scVector .vmem S2x128 .i32
  h6 : a6.IsWhole
  a7 : Memref sig .scVector .vmem S2x128x128 .f32
  h7 : a7.IsWhole
  a8 : Memref sig .scVector .vmem S192 .i32
  h8 : a8.IsWhole
  a9 : DmaSems sig S_
  a10 : DmaSems sig S_
  a11 : DmaSems sig S_
  a12 : DmaSems sig S_
  a13 : DmaSems sig S_

namespace Tl

/-- The tile's thread: subcore `i 1` of SparseCore `i 0`. -/
abbrev th (w : Tl) : Thread nD τ := V w.d ((w.i 0).castLE hcore1) ((w.i 1).castLE hsub1)

/-- The tile's first row. -/
def base (w : Tl) : ℕ := 12800 * (w.i 1).val + 6400 * (w.i 0).val

theorem base_le (w : Tl) : w.base + 6400 ≤ 204800 := by
  have h1 : (w.i 1).val < 16 := (w.i 1).isLt
  have h0 : (w.i 0).val < 2 := (w.i 0).isLt
  unfold base; omega

theorem base_mod (w : Tl) : w.base % 50 = 0 := by unfold base; omega

end Tl

theorem inbL {b : ℕ} (hb : b < 2) : ∀ a, (![b, 0] : Fin 2 → ℕ) a + S1x128.size a ≤ S2x128.size a := fun a => by
  match a with
  | ⟨0, _⟩ => exact hb
  | ⟨1, _⟩ => exact Nat.le_refl 128

theorem inbR {b : ℕ} (hb : b < 2) : ∀ a, (![b, 0, 0] : Fin 3 → ℕ) a + S1x128x128.size a ≤ S2x128x128.size a := fun a => by
  match a with
  | ⟨0, _⟩ => exact hb
  | ⟨1, _⟩ => exact Nat.le_refl 128
  | ⟨2, _⟩ => exact Nat.le_refl 128

/-- Row `b` of a two-row list, as a one-row array, -/
abbrev slabL (m : Memref sig .scVector .vmem S2x128 .i32) (b : ℕ) (hb : b < 2) : Memref sig .scVector .vmem S1x128 .i32 :=
  m.slice (Rect.unit (s := S2x128) ![b, 0] S1x128.size (inbL hb)) (fun _ => rfl)
/-- and as a vector. -/
abbrev slotL (m : Memref sig .scVector .vmem S2x128 .i32) (b : ℕ) (hb : b < 2) : Memref sig .scVector .vmem S128 .i32 :=
  (slabL m b hb).squeeze S128 squeezes_S1x128_S128

/-- Half `b` of the rows' buffer. -/
abbrev slabR (m : Memref sig .scVector .vmem S2x128x128 .f32) (b : ℕ) (hb : b < 2) : Memref sig .scVector .vmem S1x128x128 .f32 :=
  m.slice (Rect.unit (s := S2x128x128) ![b, 0, 0] S1x128x128.size (inbR hb)) (fun _ => rfl)
abbrev slotR (m : Memref sig .scVector .vmem S2x128x128 .f32) (b : ℕ) (hb : b < 2) : Memref sig .scVector .vmem S128x128 .f32 :=
  (slabR m b hb).squeeze S128x128 squeezes_S1x128x128_S128x128

namespace Tl

variable (w : Tl)

theorem inbX {n : ℕ} (hn : n < 50) : ∀ a, (![w.base + 128 * n] : Fin 1 → ℕ) a + S128.size a ≤ S204800.size a := fun a => by
  match a with
  | ⟨0, _⟩ =>
    have := w.base_le
    show w.base + 128 * n + 128 ≤ 204800
    omega

theorem inbO {n : ℕ} (hn : n < 50) : ∀ a, (![w.base + 128 * n, 0] : Fin 2 → ℕ) a + S128x128.size a ≤ S204800x128.size a := fun a => by
  match a with
  | ⟨0, _⟩ =>
    have := w.base_le
    show w.base + 128 * n + 128 ≤ 204800
    omega
  | ⟨1, _⟩ => exact Nat.le_refl 128

/-- Chunk `n`'s window of the index array. -/
abbrev xW (n : ℕ) (hn : n < 50) : Memref sig .scVector .hbm S128 .i32 :=
  w.a2.slice (Rect.unit (s := S204800) ![w.base + 128 * n] S128.size (w.inbX hn)) (fun _ => rfl)
/-- Chunk `n`'s window of the output. -/
abbrev oW (n : ℕ) (hn : n < 50) : Memref sig .scVector .hbm S128x128 .f32 :=
  w.a4.slice (Rect.unit (s := S204800x128) ![w.base + 128 * n, 0] S128x128.size (w.inbO hn)) (fun _ => rfl)

end Tl

/-! ## Reading a slot or a window, by the array it is part of -/

theorem read_slotL (m : Memref sig .scVector .vmem S2x128 .i32) {b : ℕ} (hb : b < 2) (f : m.view.ty.Contents (Elt F)) (l : Fin 128) :
    (slotL m b hb).view.read (Elt F) f (ix1 l) = m.view.read (Elt F) f (ix2 ⟨b, hb⟩ l) := by
  rw [View.read_apply, View.read_apply]
  show cast _ (f (m.view.emb ((Rect.unit (s := S2x128) ![b, 0] S1x128.size (inbL hb)).emb (Shape.reshapeEquiv _ (ix1 l))))) = _
  have h1 : ∀ h : S128.numel = S1x128.numel, Shape.reshapeEquiv h (ix1 l) = (ix2 0 l : S1x128.Idx) := fun h =>
    Shape.reshapeEquiv_eq_of_rowMajor h (by
      rw [Shape.rowMajor_val_two, Shape.rowMajor_val_one]
      show 0 * 128 + l.val = l.val
      omega)
  rw [h1]
  have h2 : (Rect.unit (s := S2x128) ![b, 0] S1x128.size (inbL hb)).emb (ix2 0 l : S1x128.Idx) = ix2 ⟨b, hb⟩ l := by
    funext a
    match a with
    | ⟨0, _⟩ => exact Fin.ext (show b + 1 * 0 = b by omega)
    | ⟨1, _⟩ => exact Fin.ext (show 0 + 1 * l.val = l.val by omega)
  rw [h2]

namespace Tl
variable (w : Tl)

theorem read_xW {n : ℕ} (hn : n < 50) (f : w.a2.view.ty.Contents (Elt F)) (l : Fin 128) (h : w.base + 128 * n + l.val < 204800) :
    (w.xW n hn).view.read (Elt F) f (ix1 l) = w.a2.view.read (Elt F) f (ix1 ⟨w.base + 128 * n + l.val, h⟩) := by
  rw [View.read_apply, View.read_apply]
  show cast _ (f (w.a2.view.emb ((Rect.unit (s := S204800) ![w.base + 128 * n] S128.size (w.inbX hn)).emb (ix1 l)))) = _
  have h2 : (Rect.unit (s := S204800) ![w.base + 128 * n] S128.size (w.inbX hn)).emb (ix1 l : S128.Idx) = ix1 ⟨w.base + 128 * n + l.val, h⟩ := by
    funext a
    match a with
    | ⟨0, _⟩ => exact Fin.ext (show w.base + 128 * n + 1 * l.val = _ by simp only [Nat.one_mul])
  rw [h2]

theorem read_oW {n : ℕ} (hn : n < 50) (f : w.a4.view.ty.Contents (Elt F)) (l c : Fin 128) (h : w.base + 128 * n + l.val < 204800) :
    (w.oW n hn).view.read (Elt F) f (ix2 l c) = w.a4.view.read (Elt F) f (ix2 ⟨w.base + 128 * n + l.val, h⟩ c) := by
  rw [View.read_apply, View.read_apply]
  show cast _ (f (w.a4.view.emb ((Rect.unit (s := S204800x128) ![w.base + 128 * n, 0] S128x128.size (w.inbO hn)).emb (ix2 l c)))) = _
  have h2 : (Rect.unit (s := S204800x128) ![w.base + 128 * n, 0] S128x128.size (w.inbO hn)).emb (ix2 l c : S128x128.Idx)
      = ix2 ⟨w.base + 128 * n + l.val, h⟩ c := by
    funext a
    match a with
    | ⟨0, _⟩ => exact Fin.ext (show w.base + 128 * n + 1 * l.val = _ by simp only [Nat.one_mul])
    | ⟨1, _⟩ => exact Fin.ext (show 0 + 1 * c.val = c.val by omega)
  rw [h2]

end Tl

/-- Contents a view reads alike are alike on its elements. -/
theorem agree_of_read {κ : Kind} {sp : Space} {s : Shape} {e : EltTy} (v : View sig κ sp s e) {f g : v.ty.Contents (Elt F)}
    (h : ∀ x, v.read (Elt F) f x = v.read (Elt F) g x) : ∀ i ∈ v.set, f i = g i := fun i hi => by
  obtain ⟨x, -, rfl⟩ := Finset.mem_map.mp hi
  exact View.eq_of_read_eq (h x)

/-! ## What a tile holds -/

section Held
variable (w : Tl)

/-- The value of a list: chunk `n`'s word at `l` names the table's row `50 x + (the position)`. -/
def lstV (X : ℕ → BitVec 32) (r : ℕ) : BitVec 32 := X r * 50#32 + BitVec.ofNat 32 (r % 50)
/-- The output's value: at row `r` the table's row `50 x[r] + r % 50`. -/
def outV (X : ℕ → BitVec 32) (T : ℕ → ℕ → F .f32) (r c : ℕ) : F .f32 := T ((X r).toNat * 50 + r % 50) c

theorem lstV_toNat {X : ℕ → BitVec 32} {r : ℕ} (h : (X r).toNat < 39) : (lstV X r).toNat = (X r).toNat * 50 + r % 50 := by
  have h5 : r % 50 < 50 := Nat.mod_lt _ (by decide)
  unfold lstV
  rw [BitVec.toNat_add, BitVec.toNat_mul, BitVec.toNat_ofNat, BitVec.toNat_ofNat]
  have e1 : r % 50 % 2 ^ 32 = r % 50 := Nat.mod_eq_of_lt (by omega)
  have e2 : (50 : ℕ) % 2 ^ 32 = 50 := by decide
  rw [e1, e2, Nat.mod_eq_of_lt (a := (X r).toNat * 50) (by omega), Nat.mod_eq_of_lt (by omega)]

theorem lstV_lt {X : ℕ → BitVec 32} {r : ℕ} (h : (X r).toNat < 39) : (lstV X r).toNat < 1950 := by
  rw [lstV_toNat h]; have h5 : r % 50 < 50 := Nat.mod_lt _ (by decide); omega

/-- Row `b` of a list reads `G`. -/
def Reads (m : Memref sig .scVector .vmem S2x128 .i32) (b : ℕ) (hb : b < 2) (f : m.view.ty.Contents (Elt F)) (G : ℕ → BitVec 32) : Prop :=
  ∀ l : Fin 128, m.view.read (Elt F) f (ix2 ⟨b, hb⟩ l) = G l.val

/-- A list's row, at any contents. -/
abbrev anyL (m : Memref sig .scVector .vmem S2x128 .i32) (b : ℕ) (hb : b < 2) : sProp 𝕄 :=
  iprop(∃ f, (slabL m b hb).view.loc w.th ↦[(slabL m b hb).view.set]{fullShare} f)
/-- A list's row reading `G`. -/
abbrev hasL (m : Memref sig .scVector .vmem S2x128 .i32) (b : ℕ) (hb : b < 2) (G : ℕ → BitVec 32) : sProp 𝕄 :=
  iprop(∃ f, ((slabL m b hb).view.loc w.th ↦[(slabL m b hb).view.set]{fullShare} f) ∗ ⌜Reads m b hb f G⌝)
/-- Half the rows' buffer, at any contents. -/
abbrev anyR (b : ℕ) (hb : b < 2) : sProp 𝕄 :=
  iprop(∃ f, (slabR w.a7 b hb).view.loc w.th ↦[(slabR w.a7 b hb).view.set]{fullShare} f)
/-- Chunk `n` of the index array. -/
abbrev xAt (fx : w.a2.view.ty.Contents (Elt F)) (n : ℕ) (hn : n < 50) : sProp 𝕄 :=
  iprop((w.xW n hn).view.loc w.th ↦[(w.xW n hn).view.set]{fullShare} fx)
/-- Chunk `n` of the output. -/
abbrev oAt (g : w.a4.view.ty.Contents (Elt F)) (n : ℕ) (hn : n < 50) : sProp 𝕄 :=
  iprop((w.oW n hn).view.loc w.th ↦[(w.oW n hn).view.set]{fullShare} g)

/-- A copy of chunk `n`'s words into slot `b`, in flight. -/
abbrev xFl (sm : DmaSems sig S_) (b : ℕ) (hb : b < 2) (fx : w.a2.view.ty.Contents (Elt F)) (X : ℕ → BitVec 32) (n : ℕ) (hn : n < 50) : sProp 𝕄 :=
  Transfers.Flight countersEmb w.th (.dma sm.sem) (default : HIx 4) (slotL w.a5 b hb).view.dmaCredit
    iprop(hasL w w.a5 b hb (fun l => X (w.base + 128 * n + l)) ∗ xAt w fx n hn)
/-- A copy of slot `b`'s rows to chunk `n` of the output, in flight. -/
abbrev oFl (sm : DmaSems sig S_) (b : ℕ) (hb : b < 2) (g : w.a4.view.ty.Contents (Elt F)) (n : ℕ) (hn : n < 50) : sProp 𝕄 :=
  Transfers.Flight countersEmb w.th (.dma sm.sem) (default : HIx 4) (w.oW n hn).view.dmaCredit
    iprop(oAt w g n hn ∗ anyR w b hb)

/-- Half the rows' buffer reading `G`. -/
abbrev hasR (b : ℕ) (hb : b < 2) (G : ℕ → ℕ → F .f32) : sProp 𝕄 :=
  iprop(∃ f, ((slabR w.a7 b hb).view.loc w.th ↦[(slabR w.a7 b hb).view.set]{fullShare} f)
    ∗ ⌜∀ l c : Fin 128, (slotR w.a7 b hb).view.read (Elt F) f (ix2 l c) = G l.val c.val⌝)
/-- The table as the gathers read it. -/
abbrev tabS : Memref sig .scVector .hbm S1950x128 .f32 :=
  w.a3.slice (Rect.unit (s := S1950x128) ![0, 0] S1950x128.size inb_S1950x128_S1950x128_0_0) (fun _ => rfl)
/-- A share of the table. -/
abbrev tabAt (q : PosShare TreeShare) (tb : w.a3.view.ty.Contents (Elt F)) : sProp 𝕄 :=
  iprop((tabS w).view.loc w.th ↦[(tabS w).view.set]{q} tb)
/-- A gather into slot `b`, in flight. -/
abbrev gFl (b : ℕ) (hb : b < 2) (q : PosShare TreeShare) (tb : w.a3.view.ty.Contents (Elt F)) (L : ℕ → BitVec 32) (G : ℕ → ℕ → F .f32) : sProp 𝕄 :=
  Transfers.Flight countersEmb w.th (.dma w.a11.sem) (default : HIx 4) (slotR w.a7 b hb).view.dmaCredit
    iprop(hasR w b hb G ∗ tabAt w q tb ∗ hasL w w.a6 b hb L)

theorem read_tabS {tb : w.a3.view.ty.Contents (Elt F)} {T : ℕ → ℕ → F .f32}
    (hT : ∀ (r : Fin 1950) (c : Fin 128), w.a3.view.read (Elt F) tb (ix2 r c) = T r.val c.val) (j : S1950x128.Idx) :
    (tabS w).view.read (Elt F) tb j = T (j 0).val (j 1).val := by
  rw [View.read_apply]
  show cast _ (tb (w.a3.view.emb ((Rect.unit (s := S1950x128) ![0, 0] S1950x128.size inb_S1950x128_S1950x128_0_0).emb j))) = _
  have h2 : (Rect.unit (s := S1950x128) ![0, 0] S1950x128.size inb_S1950x128_S1950x128_0_0).emb j = (ix2 (j 0) (j 1) : S1950x128.Idx) := by
    funext a
    match a with
    | ⟨0, _⟩ => exact Fin.ext (show 0 + 1 * (j 0).val = (j 0).val by omega)
    | ⟨1, _⟩ => exact Fin.ext (show 0 + 1 * (j 1).val = (j 1).val by omega)
  rw [h2]
  exact hT (j 0) (j 1)

end Held

/-! ## The transfers -/

section Rules

variable [FloatOps F] (w : Tl) {α : Type} {Q : α → sProp (MT nD τ sig (HIx 4) (Elt F) ℕ UU ℕ)}

/-- Restating a list's row at the view a transfer names. -/
theorem slotL_eq (m : Memref sig .scVector .vmem S2x128 .i32) (b : ℕ) (hb : b < 2) (f : m.view.ty.Contents (Elt F)) :
    ((slotL m b hb).view.loc w.th ↦[(slotL m b hb).view.set]{fullShare} f : sProp 𝕄)
      = ((slabL m b hb).view.loc w.th ↦[(slabL m b hb).view.set]{fullShare} f) := by rw [View.set_reshape]
theorem slotR_eq (b : ℕ) (hb : b < 2) (f : w.a7.view.ty.Contents (Elt F)) :
    ((slotR w.a7 b hb).view.loc w.th ↦[(slotR w.a7 b hb).view.set]{fullShare} f : sProp 𝕄)
      = ((slabR w.a7 b hb).view.loc w.th ↦[(slabR w.a7 b hb).view.set]{fullShare} f) := by rw [View.set_reshape]

/-- Issuing the copy of a chunk's words into a slot. -/
theorem issue_x (sm : DmaSems sig S_) (b : ℕ) (hb : b < 2) {fx : w.a2.view.ty.Contents (Elt F)} {X : ℕ → BitVec 32}
    (hX : ∀ j : Fin 204800, w.a2.view.read (Elt F) fx (ix1 j) = X j.val) (n : ℕ) (hn : n < 50)
    {src : Memref sig .scVector .hbm S128 .i32} (hs : src = w.xW n hn)
    {hsrc : src.view.WordExact} {hdst : (slotL w.a5 b hb).view.WordExact}
    {hsem : DmaTarget.Typed (nD := nD) (τ := τ) (p := w.th.2) .hbm (.dma sm.sem) (.here (slotL w.a5 b hb))}
    {k : PUnit → Prog (TpuEff nD τ sig (Elt F) Λ₀ w.th.2) α} :
    iprop(anyL w w.a5 b hb ∗ xAt w fx n hn ∗ semVal (w.th, .dma sm.sem) 0)
      ⊢ iprop((xFl w sm b hb fx X n hn -∗ wp frame (wpE (defs₀ (F := F)) 𝒱₀ w.th none) Set.univ (k ⟨⟩) Q)
          -∗ wp frame (wpE (defs₀ (F := F)) 𝒱₀ w.th none) Set.univ (.op (.enqueueDmaAs src (.here (slotL w.a5 b hb)) .same (.dma sm.sem) hsrc hdst hsem) k) Q) := by
  subst hs
  iintro ⟨⟨%f, Hd⟩, Hx, Hs⟩ Hk
  ihave Hd := (Entails.of_eq (slotL_eq w w.a5 b hb f).symm) $$ Hd
  iapply (Transfers.wp_dmaLocal countersEmb 𝒱₀ w.th none (sm := .dma sm.sem) (dst := slotL w.a5 b hb) (default : HIx 4)
    (slotL w.a5 b hb).view.dmaCredit rfl (View.dmaCredit_pos _ (by decide)) (Finset.Subset.refl _)) $$ [Hd Hx Hs]
  · isplitl [Hx]; · iexact Hx
    isplitl [Hd]; · iexact Hd
    iexact Hs
  iintro Hfl
  iapply Hk
  iapply (Transfers.Flight_mono countersEmb w.th ?_) $$ Hfl
  iintro ⟨Hd, Hx⟩
  isplitl [Hd]
  · iexists _
    isplitl [Hd]
    · iapply (Entails.of_eq (slotL_eq w w.a5 b hb _)) $$ Hd
    ipureintro
    intro l
    rw [← read_slotL w.a5 hb, View.read_write_univ]
    have hl : w.base + 128 * n + l.val < 204800 := by have := w.base_le; omega
    exact (w.read_xW hn fx l hl).trans (hX _)
  · iexact Hx

/-- Waiting for a chunk's words. -/
theorem wait_x (sm : DmaSems sig S_) (b : ℕ) (hb : b < 2) {fx : w.a2.view.ty.Contents (Elt F)} {X : ℕ → BitVec 32} (n : ℕ) (hn : n < 50)
    {O : CellTallies nD τ sig (HIx 4)} {W : Waits sig (HIx 4)}
    {srcw : Memref sig .scVector .hbm S128 .i32} {hsrc : srcw.view.WordExact} {hdst : (slotL w.a5 b hb).view.WordExact}
    {k : PUnit → Prog (TpuEff nD τ sig (Elt F) Λ₀ w.th.2) α} :
    iprop(xFl w sm b hb fx X n hn ∗ owes w.th O W ∗ Transfers.MayWaits w.th (default : HIx 4) O)
      ⊢ iprop((iprop(hasL w w.a5 b hb (fun l => X (w.base + 128 * n + l)) ∗ xAt w fx n hn ∗ semVal (w.th, .dma sm.sem) 0
            ∗ owes w.th O (insert (SemLoc.dma sm.sem, default) W)) -∗ wp frame (wpE (defs₀ (F := F)) 𝒱₀ w.th none) Set.univ (k ⟨⟩) Q)
          -∗ wp frame (wpE (defs₀ (F := F)) 𝒱₀ w.th none) Set.univ (.op (.waitDma2 sm.sem srcw (slotL w.a5 b hb) hsrc hdst) k) Q) := by
  iintro ⟨Hfl, HO, Hmw⟩ Hk
  iapply (Transfers.wp_waitLocalO countersEmb 𝒱₀ w.th none (default : HIx 4) (rfl : (slotL w.a5 b hb).view.dmaCredit = _)) $$ [Hfl HO Hmw]
  · isplitl [Hfl]; · iexact Hfl
    isplitl [HO]; · iexact HO
    iapply (Transfers.MayWaits.elim (SemLoc.dma sm.sem)) $$ Hmw
  iintro ⟨⟨Hd, Hx⟩, Hs, HO⟩
  iapply Hk
  isplitl [Hd]; · iexact Hd
  isplitl [Hx]; · iexact Hx
  isplitl [Hs]; · iexact Hs
  iexact HO

/-- Waiting for a chunk's rows to have left. -/
theorem wait_o (sm : DmaSems sig S_) (b : ℕ) (hb : b < 2) {g : w.a4.view.ty.Contents (Elt F)} (n : ℕ) (hn : n < 50)
    {O : CellTallies nD τ sig (HIx 4)} {W : Waits sig (HIx 4)}
    {srcw : Memref sig .scVector .vmem S128x128 .f32} {dstw : Memref sig .scVector .hbm S128x128 .f32} {hsrc : srcw.view.WordExact} {hdst : dstw.view.WordExact}
    {k : PUnit → Prog (TpuEff nD τ sig (Elt F) Λ₀ w.th.2) α} :
    iprop(oFl w sm b hb g n hn ∗ owes w.th O W ∗ Transfers.MayWaits w.th (default : HIx 4) O)
      ⊢ iprop((iprop(oAt w g n hn ∗ anyR w b hb ∗ semVal (w.th, .dma sm.sem) 0
            ∗ owes w.th O (insert (SemLoc.dma sm.sem, default) W)) -∗ wp frame (wpE (defs₀ (F := F)) 𝒱₀ w.th none) Set.univ (k ⟨⟩) Q)
          -∗ wp frame (wpE (defs₀ (F := F)) 𝒱₀ w.th none) Set.univ (.op (.waitDma2 sm.sem srcw dstw hsrc hdst) k) Q) := by
  iintro ⟨Hfl, HO, Hmw⟩ Hk
  iapply (Transfers.wp_waitLocalO countersEmb 𝒱₀ w.th none (default : HIx 4) (rfl : dstw.view.dmaCredit = (w.oW n hn).view.dmaCredit)) $$ [Hfl HO Hmw]
  · isplitl [Hfl]; · iexact Hfl
    isplitl [HO]; · iexact HO
    iapply (Transfers.MayWaits.elim (SemLoc.dma sm.sem)) $$ Hmw
  iintro ⟨⟨Hd, Hx⟩, Hs, HO⟩
  iapply Hk
  isplitl [Hd]; · iexact Hd
  isplitl [Hx]; · iexact Hx
  isplitl [Hs]; · iexact Hs
  iexact HO

/-- Issuing the copy of a slot's rows to a chunk of the output, the rows being the chunk's. -/
theorem issue_o (sm : DmaSems sig S_) (b : ℕ) (hb : b < 2) {g₀ g : w.a4.view.ty.Contents (Elt F)} {G : ℕ → ℕ → F .f32}
    (hG : ∀ (r : Fin 204800) (c : Fin 128), w.a4.view.read (Elt F) g (ix2 r c) = G r.val c.val) (n : ℕ) (hn : n < 50)
    {dst : Memref sig .scVector .hbm S128x128 .f32} (hd : dst = w.oW n hn)
    {hsrc : (slotR w.a7 b hb).view.WordExact} {hdst : dst.view.WordExact}
    {hsem : DmaTarget.Typed (nD := nD) (τ := τ) (p := w.th.2) .vmem (.dma sm.sem) (.here dst)}
    {k : PUnit → Prog (TpuEff nD τ sig (Elt F) Λ₀ w.th.2) α} :
    iprop(hasR w b hb (fun l c => G (w.base + 128 * n + l) c) ∗ oAt w g₀ n hn ∗ semVal (w.th, .dma sm.sem) 0)
      ⊢ iprop((oFl w sm b hb g n hn -∗ wp frame (wpE (defs₀ (F := F)) 𝒱₀ w.th none) Set.univ (k ⟨⟩) Q)
          -∗ wp frame (wpE (defs₀ (F := F)) 𝒱₀ w.th none) Set.univ (.op (.enqueueDmaAs (slotR w.a7 b hb) (.here dst) .same (.dma sm.sem) hsrc hdst hsem) k) Q) := by
  subst hd
  iintro ⟨⟨%f, Hr, %hf⟩, Ho, Hs⟩ Hk
  have hag : ∀ y, (w.oW n hn).view.read (Elt F) ((w.oW n hn).view.write (Elt F) g₀ ((slotR w.a7 b hb).view.read (Elt F) f) Finset.univ) y
      = (w.oW n hn).view.read (Elt F) g y := by
    intro y
    rw [View.read_write_univ]
    obtain ⟨l, c, rfl⟩ : ∃ l c : Fin 128, y = ix2 l c := ⟨y 0, y 1, eq_ix2 y⟩
    have hl : w.base + 128 * n + l.val < 204800 := by have := w.base_le; omega
    refine (hf l c).trans ?_
    exact ((w.read_oW hn g l c hl).trans (hG _ _)).symm
  ihave Hr := (Entails.of_eq (slotR_eq w b hb f).symm) $$ Hr
  iapply (Transfers.wp_dmaLocal countersEmb 𝒱₀ w.th none (sm := .dma sm.sem) (dst := w.oW n hn) (default : HIx 4)
    (w.oW n hn).view.dmaCredit rfl (View.dmaCredit_pos _ (by decide)) (Finset.Subset.refl _)) $$ [Hr Ho Hs]
  · isplitl [Hr]; · iexact Hr
    isplitl [Ho]; · iexact Ho
    iexact Hs
  iintro Hfl
  iapply Hk
  iapply (Transfers.Flight_mono countersEmb w.th ?_) $$ Hfl
  iintro ⟨Ho, Hr⟩
  isplitl [Ho]
  · iapply (Entails.of_eq (pointsTo_congr (agree_of_read (w.oW n hn).view hag))) $$ Ho
  · iexists f
    iapply (Entails.of_eq (slotR_eq w b hb f)) $$ Hr

/-- The list as the gather's stream reads it: its entry `l` is the list's word `l`. -/
theorem entry_ix1 (k : Fin S128.numel) (l : Fin 128) (h : k.val = l.val) : S128.rowMajor.symm k = ix1 l := by
  rw [Equiv.symm_apply_eq]
  apply Fin.ext
  rw [Shape.rowMajor_val_one]
  exact h

/-- Issuing the gather of a chunk's rows of the table into a slot, the slot's list naming rows of the table. -/
theorem issue_g (b : ℕ) (hb : b < 2) {q : PosShare TreeShare} {tb : w.a3.view.ty.Contents (Elt F)} {T : ℕ → ℕ → F .f32}
    (hT : ∀ (r : Fin 1950) (c : Fin 128), w.a3.view.read (Elt F) tb (ix2 r c) = T r.val c.val)
    {G : ℕ → BitVec 32} (hG : ∀ l : Fin 128, (G l.val).toNat < 1950)
    {hp : w.th.2.kind = .scVector} {hn : S128.numel = S128x128.size (gathers_S1950x128_S128x128).axis'}
    {hsrc : (tabS w).view.WordExact} {he : EltTy.f32.bits = 32} {hsp : Space.hbm = .hbm ∨ Space.hbm = .shared} {hr : S1950x128.StreamRows 0}
    {k : PUnit → Prog (TpuEff nD τ sig (Elt F) Λ₀ w.th.2) α} :
    iprop(hasL w w.a6 b hb G ∗ anyR w b hb ∗ tabAt w q tb ∗ semVal (w.th, .dma w.a11.sem) 0)
      ⊢ iprop((gFl w b hb q tb G (fun l c => T (G l).toNat c) -∗ wp frame (wpE (defs₀ (F := F)) 𝒱₀ w.th none) Set.univ (k ⟨⟩) Q)
          -∗ wp frame (wpE (defs₀ (F := F)) 𝒱₀ w.th none) Set.univ
            (SparseCore.enqueueIndirectGather hp (tabS w) (slotR w.a7 b hb) gathers_S1950x128_S128x128 (slotL w.a6 b hb) hn w.a11.sem hsrc he hsp hr >>= k) Q) := by
  iintro ⟨⟨%fo, Hl, %hfo⟩, ⟨%f, Hr⟩, Ht, Hs⟩ Hk
  ihave Hr := (Entails.of_eq (slotR_eq w b hb f).symm) $$ Hr
  ihave Hl := (Entails.of_eq (slotL_eq w w.a6 b hb fo).symm) $$ Hl
  have hin : ∀ x : S128.Idx, ((slotL w.a6 b hb).view.read (Elt F) fo x).toNat < S1950x128.size (gathers_S1950x128_S128x128).axis := fun x => by
    obtain ⟨l, rfl⟩ : ∃ l : Fin 128, x = ix1 l := ⟨x 0, eq_ix1 x⟩
    rw [read_slotL, hfo]
    exact hG l
  have hN : ∑ j, ((slotR w.a7 b hb).slice (S128x128.rowRect (gathers_S1950x128_S128x128).axis' j) (S128x128.stride_rowRect (gathers_S1950x128_S128x128).axis' j)).view.dmaCredit
      = (slotR w.a7 b hb).view.dmaCredit := by
    have h1 : (slotR w.a7 b hb).view.dmaCredit = sig.dmaCredit .scVector (.local .scVector .vmem) (0 : Fin 16) S128x128 .f32 := rfl
    have h3 : ∀ j, ((slotR w.a7 b hb).slice (S128x128.rowRect (gathers_S1950x128_S128x128).axis' j) (S128x128.stride_rowRect (gathers_S1950x128_S128x128).axis' j)).view.dmaCredit
        = sig.dmaCredit .scVector (.local .scVector .vmem) (0 : Fin 16) (S128x128.rowShape (0 : Fin 2)) .f32 := fun j => rfl
    rw [h1, Finset.sum_congr rfl fun j _ => h3 j, Finset.sum_const]
    decide
  iapply (SparseCore.wp_indirectGatherLocal countersEmb 𝒱₀ w.th none (default : HIx 4) (slotR w.a7 b hb).view.dmaCredit hN (by decide) hin) $$ [Ht Hr Hl Hs]
  · isplitl [Ht]; · iexact Ht
    isplitl [Hr]; · iexact Hr
    isplitl [Hl]; · iexact Hl
    iexact Hs
  iintro Hfl
  iapply Hk
  iapply (Transfers.Flight_mono countersEmb w.th ?_) $$ Hfl
  iintro ⟨Hr, Ht, Hl⟩
  isplitl [Hr]
  · iexists _
    isplitl [Hr]
    · iapply (Entails.of_eq (slotR_eq w b hb _)) $$ Hr
    ipureintro
    intro l c
    rw [View.read_write_univ]
    show (tabS w).view.read (Elt F) tb ((gathers_S1950x128_S128x128).idx _ (ix2 l c)) = _
    rw [read_tabS w hT]
    have e0 : ((gathers_S1950x128_S128x128).idx (SparseCore.rows ((slotL w.a6 b hb).view.read (Elt F) fo) hn hin) (ix2 l c) 0).val = (G l.val).toNat := by
      have := congrArg Fin.val ((gathers_S1950x128_S128x128).idx_axis (SparseCore.rows ((slotL w.a6 b hb).view.read (Elt F) fo) hn hin) (ix2 l c))
      refine this.trans ?_
      show ((slotL w.a6 b hb).view.read (Elt F) fo (S128.rowMajor.symm (l.cast _))).toNat = _
      refine (congrArg (fun x => ((slotL w.a6 b hb).view.read (Elt F) fo x).toNat) (entry_ix1 _ l rfl)).trans ?_
      show ((slotL w.a6 b hb).view.read (Elt F) fo (ix1 l)).toNat = _
      rw [read_slotL, hfo]
    have e1 : ((gathers_S1950x128_S128x128).idx (SparseCore.rows ((slotL w.a6 b hb).view.read (Elt F) fo) hn hin) (ix2 l c) 1).val = c.val :=
      (gathers_S1950x128_S128x128).idx_of_ne _ (ix2 l c) 1 (by decide)
    rw [e0, e1]
  isplitl [Ht]; · iexact Ht
  iexists fo
  isplitl [Hl]
  · iapply (Entails.of_eq (slotL_eq w w.a6 b hb fo)) $$ Hl
  ipureintro
  exact hfo

/-- Waiting for the gathered rows. -/
theorem wait_g (b : ℕ) (hb : b < 2) {q : PosShare TreeShare} {tb : w.a3.view.ty.Contents (Elt F)} {G : ℕ → ℕ → F .f32} {L : ℕ → BitVec 32}
    {O : CellTallies nD τ sig (HIx 4)} {W : Waits sig (HIx 4)}
    {srcw : Memref sig .scVector .hbm S1950x128 .f32} {hsrc : srcw.view.WordExact} {hdst : (slotR w.a7 b hb).view.WordExact}
    {k : PUnit → Prog (TpuEff nD τ sig (Elt F) Λ₀ w.th.2) α} :
    iprop(gFl w b hb q tb L G ∗ owes w.th O W ∗ Transfers.MayWaits w.th (default : HIx 4) O)
      ⊢ iprop((iprop(hasR w b hb G ∗ tabAt w q tb ∗ hasL w w.a6 b hb L ∗ semVal (w.th, .dma w.a11.sem) 0
            ∗ owes w.th O (insert (SemLoc.dma w.a11.sem, default) W)) -∗ wp frame (wpE (defs₀ (F := F)) 𝒱₀ w.th none) Set.univ (k ⟨⟩) Q)
          -∗ wp frame (wpE (defs₀ (F := F)) 𝒱₀ w.th none) Set.univ (SparseCore.waitIndirectGather w.a11.sem srcw (slotR w.a7 b hb) hsrc hdst >>= k) Q) := by
  iintro ⟨Hfl, HO, Hmw⟩ Hk
  unfold SparseCore.waitIndirectGather
  iapply (Transfers.wp_waitLocalO countersEmb 𝒱₀ w.th none (default : HIx 4) (rfl : (slotR w.a7 b hb).view.dmaCredit = _)) $$ [Hfl HO Hmw]
  · isplitl [Hfl]; · iexact Hfl
    isplitl [HO]; · iexact HO
    iapply (Transfers.MayWaits.elim (SemLoc.dma w.a11.sem)) $$ Hmw
  iintro ⟨⟨Hr, Ht, Hl⟩, Hs, HO⟩
  iapply Hk
  isplitl [Hr]; · iexact Hr
  isplitl [Ht]; · iexact Ht
  isplitl [Hl]; · iexact Hl
  isplitl [Hs]; · iexact Hs
  iexact HO

end Rules

end Cert.Proof
-- ==== Proof.Lists.lean ====
/-
  The words of a tile's index lists: the offsets of one trip of its loop, and what its eight groups of stores leave in a
  list's row.
-/
module

public import proofs.«01_k».proof.Proof.Slots
public import Idealize.ShloMosaic.Lib.Pointwise

@[expose] public section

noncomputable section

namespace Cert.Proof

open Cert.KernelIdeal Cert.KernelIdeal.Gen

open Idealize.ShloMosaic hiding ix1 ix2 ix3
open Idealize.ShloMosaic.ValueIdx
open Idealize.SL Idealize.SL.RA Idealize.SL.BI

variable {F : FTy → Type}

/-! ## The words of a trip -/

/-- The first prefetch of a trip runs when there is a chunk left for it, -/
theorem cond1_iff : ∀ t : Fin k1_t1_loop.trips, k1_cond1 t = 1#1 ↔ 2 * t.val + 2 < 50 := by decide +kernel
/-- the second likewise, -/
theorem cond3_iff : ∀ t : Fin k1_t1_loop.trips, k1_cond3 t = 1#1 ↔ 2 * t.val + 3 < 50 := by decide +kernel
/-- and a slot's rows are waited for from the second trip on. -/
theorem cond2_iff : ∀ t : Fin k1_t1_loop.trips, k1_cond2 t = 1#1 ↔ 0 < t.val := by decide +kernel
theorem cond4_iff : ∀ t : Fin k1_t1_loop.trips, k1_cond4 t = 1#1 ↔ 0 < t.val := by decide +kernel

/-- The offset of a trip's first chunk, as the loop carries it. -/
def offW (t : ℕ) : BitVec 32 := BitVec.ofNat 32 (256 * t % 50)

theorem off3_mod : ∀ (o : Fin 50) (r : Fin 8), k1_off3 (BitVec.ofNat 32 o.val) (BitVec.ofNat 32 (16 * r.val)) = ![o.val + 16 * r.val] := by
  decide +kernel
theorem off8_mod : ∀ (o : Fin 50) (r : Fin 8), k1_off8 (BitVec.ofNat 32 o.val) (BitVec.ofNat 32 (16 * r.val)) = ![(o.val + 28) % 50 + 16 * r.val] := by
  decide +kernel

theorem off3_eq (t : ℕ) (r : Fin 8) : k1_off3 (offW t) (BitVec.ofNat 32 (16 * r.val)) = ![128 * (2 * t) % 50 + 16 * r.val] := by
  have h := off3_mod ⟨256 * t % 50, Nat.mod_lt _ (by decide)⟩ r
  have e : 128 * (2 * t) % 50 = 256 * t % 50 := by omega
  rw [e]; exact h
theorem off8_eq (t : ℕ) (r : Fin 8) : k1_off8 (offW t) (BitVec.ofNat 32 (16 * r.val)) = ![128 * (2 * t + 1) % 50 + 16 * r.val] := by
  have h := off8_mod ⟨256 * t % 50, Nat.mod_lt _ (by decide)⟩ r
  have e : 128 * (2 * t + 1) % 50 = (256 * t % 50 + 28) % 50 := by omega
  rw [e]; exact h

/-- The offsets' reads stay inside the array. -/
theorem chk_ok (t : ℕ) : k1_chk1 (offW t) := by
  refine ⟨fun r a => ?_, fun r a => ?_⟩
  · rw [off3_eq]
    match a with
    | ⟨0, _⟩ =>
      have := r.isLt
      have : 128 * (2 * t) % 50 < 50 := Nat.mod_lt _ (by decide)
      show 128 * (2 * t) % 50 + 16 * r.val + 16 ≤ 192
      omega
  · rw [off8_eq]
    match a with
    | ⟨0, _⟩ =>
      have := r.isLt
      have : 128 * (2 * t + 1) % 50 < 50 := Nat.mod_lt _ (by decide)
      show 128 * (2 * t + 1) % 50 + 16 * r.val + 16 ≤ 192
      omega

/-- One chunk's step of the offset. -/
def stepW (a : BitVec 32) : BitVec 32 :=
  Scalar.select (Scalar.cmpi .sge (Scalar.addi a 28#32) 50#32) (Scalar.subi (Scalar.addi a 28#32) 50#32) (Scalar.addi a 28#32)

theorem stepW_mod : ∀ o : Fin 50, stepW (stepW (BitVec.ofNat 32 o.val)) = BitVec.ofNat 32 ((o.val + 56) % 50) := by decide +kernel

/-- Two steps of the offset are a trip's. -/
theorem offW_succ (t : ℕ) : stepW (stepW (offW t)) = offW (t + 1) := by
  have h := stepW_mod ⟨256 * t % 50, Nat.mod_lt _ (by decide)⟩
  have e : 256 * (t + 1) % 50 = (256 * t % 50 + 56) % 50 := by omega
  unfold offW at *
  rw [e]; exact h

/-! ## A group's words -/

theorem inbG {b o : ℕ} (hb : b < 2) (ho : o + 16 ≤ 128) : ∀ a, (![b, o] : Fin 2 → ℕ) a + S1x16.size a ≤ S2x128.size a := fun a => by
  match a with
  | ⟨0, _⟩ => exact hb
  | ⟨1, _⟩ => exact ho

/-- A group's payload at a lane: fifty times the index word, and the offset. -/
theorem pay_apply (v : Vec F S1x16 .i32) (u : Vec F S16 .i32) (l : Fin 16) :
    k1_pay1 (F := F) v u (ix2 (0 : Fin 1) l) = (v (ix2 (0 : Fin 1) l) : BitVec 32) * 50#32 + (u (ix1 l) : BitVec 32) := by
  show shapeCast S1x16 (addi (muli (shapeCast S16 v shapeCasts_S1x16_S16) (broadcast S16 50#32)) (shapeCast S16 u shapeCasts_S16_S16)) shapeCasts_S16_S1x16 (ix2 0 l) = _
  refine (shapeCast_a_1a_apply _ shapeCasts_S16_S1x16 0 l).trans ?_
  rw [addi_apply, muli_apply, broadcast_apply, shapeCast_self]
  have h : shapeCast S16 v shapeCasts_S1x16_S16 (ix1 l) = v (ix2 (0 : Fin 1) l) := shapeCast_1a_a_apply v shapeCasts_S1x16_S16 l
  rw [h]
  rfl

/-- A group's load of a list's row, at a lane. -/
theorem read_group (m : Memref sig .scVector .vmem S2x128 .i32) {b o : ℕ} (hb : b < 2) (ho : o + 16 ≤ 128)
    (f : m.view.ty.Contents (Elt F)) (l : Fin 16) (hl : o + l.val < 128) :
    (m.view.slice (Rect.unit (s := S2x128) ![b, o] S1x16.size (inbG hb ho))).read (Elt F) f (ix2 (0 : Fin 1) l)
      = m.view.read (Elt F) f (ix2 ⟨b, hb⟩ ⟨o + l.val, hl⟩) := by
  rw [View.read_apply, View.read_apply]
  show cast _ (f (m.view.emb ((Rect.unit (s := S2x128) ![b, o] S1x16.size (inbG hb ho)).emb (ix2 0 l)))) = _
  have h2 : (Rect.unit (s := S2x128) ![b, o] S1x16.size (inbG hb ho)).emb (ix2 0 l : S1x16.Idx) = ix2 ⟨b, hb⟩ ⟨o + l.val, hl⟩ := by
    funext a
    match a with
    | ⟨0, _⟩ => exact Fin.ext (show b + 1 * 0 = b by omega)
    | ⟨1, _⟩ => exact Fin.ext (show o + 1 * l.val = o + l.val by omega)
  rw [h2]

/-- A group's load of the offsets, at a lane. -/
theorem read_offs (m : Memref sig .scVector .vmem S192 .i32) {off : Fin 1 → ℕ} {p : ℕ} (hoff : off = ![p])
    (inb : ∀ a, off a + S16.size a ≤ S192.size a) (f : m.view.ty.Contents (Elt F)) (l : Fin 16) (hl : p + l.val < 192) :
    (m.view.slice (Rect.unit (s := S192) off S16.size inb)).read (Elt F) f (ix1 l) = m.view.read (Elt F) f (ix1 ⟨p + l.val, hl⟩) := by
  subst hoff
  rw [View.read_apply, View.read_apply]
  show cast _ (f (m.view.emb ((Rect.unit (s := S192) ![p] S16.size inb).emb (ix1 l)))) = _
  have h2 : (Rect.unit (s := S192) ![p] S16.size inb).emb (ix1 l : S16.Idx) = ix1 ⟨p + l.val, hl⟩ := by
    funext a
    match a with
    | ⟨0, _⟩ => exact Fin.ext (show p + 1 * l.val = p + l.val by omega)
  rw [h2]

/-- The offsets array reads the positions. -/
def Offs (m : Memref sig .scVector .vmem S192 .i32) (f : m.view.ty.Contents (Elt F)) : Prop :=
  ∀ k : Fin 192, m.view.read (Elt F) f (ix1 k) = BitVec.ofNat 32 (k.val % 50)

/-- A group's payload over a chunk's words and the offsets: the list's values. -/
theorem pay_val (w : Tl) {b o n : ℕ} (hb : b < 2) (ho : o + 16 ≤ 128) {X : ℕ → BitVec 32}
    {f5 : w.a5.view.ty.Contents (Elt F)} (h5 : Reads w.a5 b hb f5 fun l => X (w.base + 128 * n + l))
    {f8 : w.a8.view.ty.Contents (Elt F)} (h8 : Offs w.a8 f8)
    {off : Fin 1 → ℕ} (hoff : off = ![128 * n % 50 + o]) (inb : ∀ a, off a + S16.size a ≤ S192.size a) (l : Fin 16) :
    k1_pay1 (F := F) ((w.a5.view.slice (Rect.unit (s := S2x128) ![b, o] S1x16.size (inbG hb ho))).read (Elt F) f5)
      ((w.a8.view.slice (Rect.unit (s := S192) off S16.size inb)).read (Elt F) f8) (ix2 (0 : Fin 1) l)
      = lstV X (w.base + 128 * n + (o + l.val)) := by
  have hm : 128 * n % 50 < 50 := Nat.mod_lt _ (by decide)
  rw [pay_apply, read_group w.a5 hb ho f5 l (by omega), read_offs w.a8 hoff inb f8 l (by omega), h5, h8]
  have e : (128 * n % 50 + o + l.val) % 50 = (w.base + 128 * n + (o + l.val)) % 50 := by have := w.base_mod; omega
  show X _ * 50#32 + BitVec.ofNat 32 ((128 * n % 50 + o + l.val) % 50) = _
  rw [e]; rfl

/-! ## A list's row, filled by groups -/

/-- The first `o` words of row `b` of a list read `G`. -/
def Upto (m : Memref sig .scVector .vmem S2x128 .i32) (b : ℕ) (hb : b < 2) (f : m.view.ty.Contents (Elt F)) (G : ℕ → BitVec 32) (o : ℕ) : Prop :=
  ∀ l : Fin 128, l.val < o → m.view.read (Elt F) f (ix2 ⟨b, hb⟩ l) = G l.val

/-- Contents after a group's store. -/
abbrev grpW (m : Memref sig .scVector .vmem S2x128 .i32) {b o : ℕ} (hb : b < 2) (ho : o + 16 ≤ 128) (f : m.view.ty.Contents (Elt F))
    (p : S1x16.Idx → BitVec 32) : m.view.ty.Contents (Elt F) :=
  (m.access (Rect.unit (s := S2x128) ![b, o] S1x16.size (inbG hb ho))).write (Elt F) f p Finset.univ

/-- A group's store extends what a row reads by its sixteen words. -/
theorem upto_store (m : Memref sig .scVector .vmem S2x128 .i32) {b o : ℕ} (hb : b < 2) (ho : o + 16 ≤ 128) {f : m.view.ty.Contents (Elt F)}
    {G : ℕ → BitVec 32} (h : Upto m b hb f G o) {p : S1x16.Idx → BitVec 32} (hp : ∀ l : Fin 16, p (ix2 (0 : Fin 1) l) = G (o + l.val)) :
    Upto m b hb (grpW m hb ho f p) G (o + 16) := by
  intro l hl
  by_cases hlo : l.val < o
  · refine (View.read_slice_write_of_not_mem (v := m.view) (Rect.unit (s := S2x128) ![b, o] S1x16.size (inbG hb ho)) f p Finset.univ ?_).trans (h l hlo)
    intro hm
    obtain ⟨x, -, hx⟩ := Finset.mem_map.mp hm
    have h1 : ((Rect.unit (s := S2x128) ![b, o] S1x16.size (inbG hb ho)).emb x 1).val = o + 1 * (x 1).val := rfl
    rw [hx] at h1
    have h2 : l.val = o + 1 * (x 1).val := h1
    omega
  · have hx : (Rect.unit (s := S2x128) ![b, o] S1x16.size (inbG hb ho)).emb (ix2 (0 : Fin 1) (⟨l.val - o, by omega⟩ : Fin 16) : S1x16.Idx)
        = ix2 ⟨b, hb⟩ l := by
      funext a
      match a with
      | ⟨0, _⟩ => exact Fin.ext (show b + 1 * 0 = b by omega)
      | ⟨1, _⟩ => exact Fin.ext (show o + 1 * (l.val - o) = l.val by omega)
    rw [← hx]
    refine (View.read_slice_write_emb (v := m.view) (Rect.unit (s := S2x128) ![b, o] S1x16.size (inbG hb ho)) f p (Finset.mem_univ _)).trans ?_
    rw [hp]
    exact congrArg G (show o + (l.val - o) = l.val by omega)

/-- The eight groups' stores leave the row reading `G`. -/
theorem fill8 (m : Memref sig .scVector .vmem S2x128 .i32) {b : ℕ} (hb : b < 2) (f : m.view.ty.Contents (Elt F))
    {G : ℕ → BitVec 32} {p0 p1 p2 p3 p4 p5 p6 p7 : S1x16.Idx → BitVec 32}
    (h0 : ∀ l : Fin 16, p0 (ix2 (0 : Fin 1) l) = G (0 + l.val)) (h1 : ∀ l : Fin 16, p1 (ix2 (0 : Fin 1) l) = G (16 + l.val))
    (h2 : ∀ l : Fin 16, p2 (ix2 (0 : Fin 1) l) = G (32 + l.val)) (h3 : ∀ l : Fin 16, p3 (ix2 (0 : Fin 1) l) = G (48 + l.val))
    (h4 : ∀ l : Fin 16, p4 (ix2 (0 : Fin 1) l) = G (64 + l.val)) (h5 : ∀ l : Fin 16, p5 (ix2 (0 : Fin 1) l) = G (80 + l.val))
    (h6 : ∀ l : Fin 16, p6 (ix2 (0 : Fin 1) l) = G (96 + l.val)) (h7 : ∀ l : Fin 16, p7 (ix2 (0 : Fin 1) l) = G (112 + l.val)) :
    Reads m b hb
      (grpW m hb (o := 112) (by decide) (grpW m hb (o := 96) (by decide) (grpW m hb (o := 80) (by decide) (grpW m hb (o := 64) (by decide)
        (grpW m hb (o := 48) (by decide) (grpW m hb (o := 32) (by decide) (grpW m hb (o := 16) (by decide) (grpW m hb (o := 0) (by decide)
          f p0) p1) p2) p3) p4) p5) p6) p7) G := by
  have u0 : Upto m b hb f G 0 := fun l hl => absurd hl (Nat.not_lt_zero _)
  have u1 := upto_store m hb (o := 0) (by decide) u0 h0
  have u2 := upto_store m hb (o := 16) (by decide) u1 h1
  have u3 := upto_store m hb (o := 32) (by decide) u2 h2
  have u4 := upto_store m hb (o := 48) (by decide) u3 h3
  have u5 := upto_store m hb (o := 64) (by decide) u4 h4
  have u6 := upto_store m hb (o := 80) (by decide) u5 h5
  have u7 := upto_store m hb (o := 96) (by decide) u6 h6
  have u := upto_store m hb (o := 112) (by decide) u7 h7
  exact fun l => u l l.isLt

end Cert.Proof
-- ==== Proof.Chunks.lean ====
/-
  A tile's fifty chunks between two steps: two chunks of the index array are on their way in, two chunks of the output
  on their way out, and the rest lie in memory.
-/
module

public import proofs.«01_k».proof.Proof.Lists

@[expose] public section

noncomputable section

namespace Cert.Proof

open Cert.KernelIdeal Cert.KernelIdeal.Gen

open Idealize.ShloMosaic hiding ix1 ix2 ix3
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

section Held
variable (w : Tl)

/-- Slot `b` of the words before chunk `n`'s step: the chunk's copy is in flight, or there is no such chunk and the slot is free. -/
def XSl (sm : DmaSems sig S_) (b : ℕ) (hb : b < 2) (fx : w.a2.view.ty.Contents (Elt F)) (X : ℕ → BitVec 32) (n : ℕ) : sProp 𝕄 :=
  if h : n < 50 then xFl w sm b hb fx X n h else iprop(anyL w w.a5 b hb ∗ semVal (w.th, .dma sm.sem) 0)

/-- The chunks of the index array in memory before chunk `k`'s step: all but `k` and `k + 1`. -/
def XR (fx : w.a2.view.ty.Contents (Elt F)) (k : ℕ) : sProp 𝕄 :=
  bigSep (Finset.univ.filter fun n : Fin 50 => n.val ≠ k ∧ n.val ≠ k + 1) fun n => xAt w fx n.val n.isLt

/-- Slot `b` of the rows before chunk `k`'s step: chunk `k - 2` is leaving from it, or it is free. -/
def OSl (sm : DmaSems sig S_) (b : ℕ) (hb : b < 2) (g : w.a4.view.ty.Contents (Elt F)) (k : ℕ) : sProp 𝕄 :=
  if h : 2 ≤ k ∧ k - 2 < 50 then oFl w sm b hb g (k - 2) h.2 else iprop(anyR w b hb ∗ semVal (w.th, .dma sm.sem) 0)

/-- Chunk `n` of the output before chunk `k`'s step. -/
def oMix (g₀ g : w.a4.view.ty.Contents (Elt F)) (k : ℕ) (n : Fin 50) : sProp 𝕄 :=
  if n.val < k then oAt w g n.val n.isLt else oAt w g₀ n.val n.isLt

/-- The chunks of the output in memory before chunk `k`'s step: all but `k - 2` and `k - 1`. -/
def OR (g₀ g : w.a4.view.ty.Contents (Elt F)) (k : ℕ) : sProp 𝕄 :=
  bigSep (Finset.univ.filter fun n : Fin 50 => n.val + 2 ≠ k ∧ n.val + 2 ≠ k + 1) (oMix w g₀ g k)

/-- What the tile owes, its waits having grown by waits on its own transfers. -/
abbrev Ow (O : CellTallies nD τ sig (HIx 4)) (W : Waits sig (HIx 4)) : sProp 𝕄 :=
  iprop(∃ W', ⌜∀ p ∈ W', p ∈ W ∨ p.2 = none⌝ ∗ owes w.th O W')

theorem mem_insert_ok {W W' : Waits sig (HIx 4)} (h : ∀ p ∈ W', p ∈ W ∨ p.2 = none) (s : SemLoc sig) :
    ∀ p ∈ (insert (s, (default : HIx 4)) W' : Waits sig (HIx 4)), p ∈ W ∨ p.2 = none := fun p hp => by
  rcases Finset.mem_insert.mp hp with rfl | hp
  · exact Or.inr rfl
  · exact h p hp

theorem Ow_intro {O : CellTallies nD τ sig (HIx 4)} {W₀ W : Waits sig (HIx 4)} (hW : ∀ p ∈ W, p ∈ W₀ ∨ p.2 = none) :
    (owes w.th O W : sProp 𝕄) ⊢ Ow w O W₀ := by
  iintro HO
  iexists W
  isplitr [HO]
  · ipureintro; exact hW
  iexact HO

variable {w}

theorem XSl_pos {sm : DmaSems sig S_} {b : ℕ} {hb : b < 2} {fx : w.a2.view.ty.Contents (Elt F)} {X : ℕ → BitVec 32} {n : ℕ} (h : n < 50) :
    XSl w sm b hb fx X n = xFl w sm b hb fx X n h := dif_pos h
theorem XSl_neg {sm : DmaSems sig S_} {b : ℕ} {hb : b < 2} {fx : w.a2.view.ty.Contents (Elt F)} {X : ℕ → BitVec 32} {n : ℕ} (h : ¬ n < 50) :
    XSl w sm b hb fx X n = iprop(anyL w w.a5 b hb ∗ semVal (w.th, .dma sm.sem) 0) := dif_neg h
theorem OSl_pos {sm : DmaSems sig S_} {b : ℕ} {hb : b < 2} {g : w.a4.view.ty.Contents (Elt F)} {k : ℕ} (h : 2 ≤ k ∧ k - 2 < 50) :
    OSl w sm b hb g k = oFl w sm b hb g (k - 2) h.2 := dif_pos h
theorem OSl_neg {sm : DmaSems sig S_} {b : ℕ} {hb : b < 2} {g : w.a4.view.ty.Contents (Elt F)} {k : ℕ} (h : ¬ (2 ≤ k ∧ k - 2 < 50)) :
    OSl w sm b hb g k = iprop(anyR w b hb ∗ semVal (w.th, .dma sm.sem) 0) := dif_neg h

/-- The chunk whose words have been read goes back. -/
theorem XR_give {fx : w.a2.view.ty.Contents (Elt F)} {k : ℕ} (hk : k < 50) :
    iprop(xAt w fx k hk ∗ XR w fx k) ⊢ (bigSep (Finset.univ.filter fun n : Fin 50 => n.val ≠ k + 1) fun n => xAt w fx n.val n.isLt : sProp 𝕄) := by
  have e : (Finset.univ.filter fun n : Fin 50 => n.val ≠ k + 1)
      = insert ⟨k, hk⟩ (Finset.univ.filter fun n : Fin 50 => n.val ≠ k ∧ n.val ≠ k + 1) := by
    ext n; simp only [Finset.mem_filter, Finset.mem_univ, true_and, Finset.mem_insert, Fin.ext_iff]; omega
  rw [e, bigSep_insert (by simp)]
  exact Entails.refl _

/-- The chunk after next is taken, when there is one. -/
theorem XR_take {fx : w.a2.view.ty.Contents (Elt F)} {k : ℕ} (hk : k + 2 < 50) :
    (bigSep (Finset.univ.filter fun n : Fin 50 => n.val ≠ k + 1) fun n => xAt w fx n.val n.isLt : sProp 𝕄)
      ⊢ iprop(xAt w fx (k + 2) hk ∗ XR w fx (k + 1)) := by
  have e : (Finset.univ.filter fun n : Fin 50 => n.val ≠ k + 1)
      = insert ⟨k + 2, hk⟩ (Finset.univ.filter fun n : Fin 50 => n.val ≠ k + 1 ∧ n.val ≠ k + 1 + 1) := by
    ext n; simp only [Finset.mem_filter, Finset.mem_univ, true_and, Finset.mem_insert, Fin.ext_iff]; omega
  rw [e, bigSep_insert (by simp)]
  exact Entails.refl _

theorem XR_last {fx : w.a2.view.ty.Contents (Elt F)} {k : ℕ} (hk : ¬ k + 2 < 50) :
    (bigSep (Finset.univ.filter fun n : Fin 50 => n.val ≠ k + 1) fun n => xAt w fx n.val n.isLt : sProp 𝕄) ⊢ XR w fx (k + 1) := by
  have e : (Finset.univ.filter fun n : Fin 50 => n.val ≠ k + 1)
      = (Finset.univ.filter fun n : Fin 50 => n.val ≠ k + 1 ∧ n.val ≠ k + 1 + 1) := by
    ext n; simp only [Finset.mem_filter, Finset.mem_univ, true_and]; omega
  rw [e]
  exact Entails.refl _

/-- The chunk that has left goes back. -/
theorem OR_give {g₀ g : w.a4.view.ty.Contents (Elt F)} {k : ℕ} (h : 2 ≤ k ∧ k - 2 < 50) :
    iprop(oAt w g (k - 2) h.2 ∗ OR w g₀ g k) ⊢ bigSep (Finset.univ.filter fun n : Fin 50 => n.val + 2 ≠ k + 1) (oMix w g₀ g k) := by
  have e : (Finset.univ.filter fun n : Fin 50 => n.val + 2 ≠ k + 1)
      = insert ⟨k - 2, h.2⟩ (Finset.univ.filter fun n : Fin 50 => n.val + 2 ≠ k ∧ n.val + 2 ≠ k + 1) := by
    ext n; simp only [Finset.mem_filter, Finset.mem_univ, true_and, Finset.mem_insert, Fin.ext_iff]; omega
  rw [e, bigSep_insert (by simp only [Finset.mem_filter, Finset.mem_univ, true_and]; omega)]
  refine sep_mono (Entails.of_eq ?_) (Entails.refl _)
  unfold oMix
  rw [if_pos (show k - 2 < k by omega)]

theorem OR_keep {g₀ g : w.a4.view.ty.Contents (Elt F)} {k : ℕ} (h : ¬ (2 ≤ k ∧ k - 2 < 50)) :
    OR w g₀ g k ⊢ bigSep (Finset.univ.filter fun n : Fin 50 => n.val + 2 ≠ k + 1) (oMix w g₀ g k) := by
  have e : (Finset.univ.filter fun n : Fin 50 => n.val + 2 ≠ k + 1)
      = (Finset.univ.filter fun n : Fin 50 => n.val + 2 ≠ k ∧ n.val + 2 ≠ k + 1) := by
    ext n; simp only [Finset.mem_filter, Finset.mem_univ, true_and]; omega
  rw [e]
  exact Entails.refl _

/-- Chunk `k` of the output is taken, not written yet. -/
theorem OR_take {g₀ g : w.a4.view.ty.Contents (Elt F)} {k : ℕ} (hk : k < 50) :
    bigSep (Finset.univ.filter fun n : Fin 50 => n.val + 2 ≠ k + 1) (oMix w g₀ g k) ⊢ iprop(oAt w g₀ k hk ∗ OR w g₀ g (k + 1)) := by
  have e : (Finset.univ.filter fun n : Fin 50 => n.val + 2 ≠ k + 1)
      = insert ⟨k, hk⟩ (Finset.univ.filter fun n : Fin 50 => n.val + 2 ≠ k + 1 ∧ n.val + 2 ≠ k + 1 + 1) := by
    ext n; simp only [Finset.mem_filter, Finset.mem_univ, true_and, Finset.mem_insert, Fin.ext_iff]; omega
  rw [e, bigSep_insert (by simp only [Finset.mem_filter, Finset.mem_univ, true_and]; omega)]
  refine sep_mono (Entails.of_eq ?_) (Entails.of_eq (bigSep_congr fun n hn => ?_))
  · unfold oMix
    rw [if_neg (show ¬ k < k by omega)]
  · have hn' : n.val ≠ k := by
      have := (Finset.mem_filter.mp hn).2; omega
    unfold oMix
    by_cases h : n.val < k
    · rw [if_pos h, if_pos (by omega)]
    · rw [if_neg h, if_neg (by omega)]

end Held

section Guards

variable (w : Tl) {α : Type} {Q : α → sProp (MT nD τ sig (HIx 4) (Elt F) ℕ UU ℕ)}

/-- After chunk `k`'s words have been read: chunk `k + 2`'s copy is issued when there is such a chunk. -/
theorem next_x (sm : DmaSems sig S_) (b : ℕ) (hb : b < 2) {fx : w.a2.view.ty.Contents (Elt F)} {X : ℕ → BitVec 32}
    (k : ℕ) (hk : k < 50) {c : Prop} [Decidable c] (hc : c ↔ k + 2 < 50)
    {A : c → Prog (TpuEff nD τ sig (Elt F) Λ₀ w.th.2) α} {K : Prog (TpuEff nD τ sig (Elt F) Λ₀ w.th.2) α}
    (hA : ∀ h : c, iprop(anyL w w.a5 b hb ∗ xAt w fx (k + 2) (hc.mp h) ∗ semVal (w.th, .dma sm.sem) 0)
      ⊢ iprop((xFl w sm b hb fx X (k + 2) (hc.mp h) -∗ wp frame (wpE (defs₀ (F := F)) 𝒱₀ w.th none) Set.univ K Q)
        -∗ wp frame (wpE (defs₀ (F := F)) 𝒱₀ w.th none) Set.univ (A h) Q)) :
    iprop(anyL w w.a5 b hb ∗ semVal (w.th, .dma sm.sem) 0 ∗ xAt w fx k hk ∗ XR w fx k)
      ⊢ iprop((iprop(XSl w sm b hb fx X (k + 2) ∗ XR w fx (k + 1)) -∗ wp frame (wpE (defs₀ (F := F)) 𝒱₀ w.th none) Set.univ K Q)
        -∗ wp frame (wpE (defs₀ (F := F)) 𝒱₀ w.th none) Set.univ (dite c A fun _ => K) Q) := by
  iintro ⟨Hl, Hs, Hx, HR⟩ Hk
  ihave HR := (XR_give hk) $$ [Hx HR]
  · isplitl [Hx]; · iexact Hx
    iexact HR
  by_cases h : c
  · rw [dif_pos h]
    ihave HR := (XR_take (hc.mp h)) $$ HR
    icases HR with ⟨Hx, HR⟩
    iapply (hA h) $$ [Hl Hs Hx]
    · isplitl [Hl]; · iexact Hl
      isplitl [Hx]; · iexact Hx
      iexact Hs
    iintro Hfl
    iapply Hk
    rw [XSl_pos (hc.mp h)]
    isplitl [Hfl]; · iexact Hfl
    iexact HR
  · rw [dif_neg h]
    have h' : ¬ k + 2 < 50 := fun h' => h (hc.mpr h')
    ihave HR := (XR_last h') $$ HR
    iapply Hk
    rw [XSl_neg h']
    isplitl [Hl Hs]
    · isplitl [Hl]; · iexact Hl
      iexact Hs
    iexact HR

/-- Before chunk `k`'s rows come in: chunk `k - 2`, if there is one, is waited for, and its slot is free. -/
theorem prev_o (sm : DmaSems sig S_) (b : ℕ) (hb : b < 2) {g₀ g : w.a4.view.ty.Contents (Elt F)}
    (k : ℕ) (hk : k < 50) {c : Prop} [Decidable c] (hc : c ↔ 2 ≤ k) {O : CellTallies nD τ sig (HIx 4)} {W₀ W : Waits sig (HIx 4)}
    (hW : ∀ p ∈ W, p ∈ W₀ ∨ p.2 = none)
    {A : c → Prog (TpuEff nD τ sig (Elt F) Λ₀ w.th.2) α} {K : Prog (TpuEff nD τ sig (Elt F) Λ₀ w.th.2) α}
    (hA : ∀ (h : c) (hn : k - 2 < 50), iprop(oFl w sm b hb g (k - 2) hn ∗ owes w.th O W ∗ Transfers.MayWaits w.th (default : HIx 4) O)
      ⊢ iprop((iprop(oAt w g (k - 2) hn ∗ anyR w b hb ∗ semVal (w.th, .dma sm.sem) 0
            ∗ owes w.th O (insert (SemLoc.dma sm.sem, default) W)) -∗ wp frame (wpE (defs₀ (F := F)) 𝒱₀ w.th none) Set.univ K Q)
        -∗ wp frame (wpE (defs₀ (F := F)) 𝒱₀ w.th none) Set.univ (A h) Q)) :
    iprop(OSl w sm b hb g k ∗ OR w g₀ g k ∗ owes w.th O W ∗ Transfers.MayWaits w.th (default : HIx 4) O)
      ⊢ iprop((iprop(anyR w b hb ∗ semVal (w.th, .dma sm.sem) 0 ∗ oAt w g₀ k hk ∗ OR w g₀ g (k + 1) ∗ Ow w O W₀)
          -∗ wp frame (wpE (defs₀ (F := F)) 𝒱₀ w.th none) Set.univ K Q)
        -∗ wp frame (wpE (defs₀ (F := F)) 𝒱₀ w.th none) Set.univ (dite c A fun _ => K) Q) := by
  by_cases h : c
  · have h2 : 2 ≤ k ∧ k - 2 < 50 := ⟨hc.mp h, by omega⟩
    rw [OSl_pos h2, dif_pos h]
    iintro ⟨Hs, HR, HO, Hmw⟩ Hk
    iapply (hA h h2.2) $$ [Hs HO Hmw]
    · isplitl [Hs]; · iexact Hs
      isplitl [HO]; · iexact HO
      iexact Hmw
    iintro ⟨Ho, Hr, Hs, HO⟩
    ihave HR := (OR_give h2) $$ [Ho HR]
    · isplitl [Ho]; · iexact Ho
      iexact HR
    ihave HR := (OR_take hk) $$ HR
    icases HR with ⟨Ho, HR⟩
    iapply Hk
    isplitl [Hr]; · iexact Hr
    isplitl [Hs]; · iexact Hs
    isplitl [Ho]; · iexact Ho
    isplitl [HR]; · iexact HR
    iapply (Ow_intro w (mem_insert_ok hW _)) $$ HO
  · have h2 : ¬ (2 ≤ k ∧ k - 2 < 50) := fun h2 => h (hc.mpr h2.1)
    rw [OSl_neg h2, dif_neg h]
    iintro ⟨⟨Hr, Hs⟩, HR, HO, Hmw⟩ Hk
    ihave HR := (OR_keep h2) $$ HR
    ihave HR := (OR_take hk) $$ HR
    icases HR with ⟨Ho, HR⟩
    iapply Hk
    isplitl [Hr]; · iexact Hr
    isplitl [Hs]; · iexact Hs
    isplitl [Ho]; · iexact Ho
    isplitl [HR]; · iexact HR
    iapply (Ow_intro w hW) $$ HO

end Guards

end Cert.Proof
-- ==== Proof.Trip.lean ====
/-
  One trip of a tile's loop: chunks `2 t` and `2 t + 1` through their slots.
-/
module

public import proofs.«01_k».proof.Proof.Chunks

@[expose] public section

noncomputable section

namespace Cert.Proof

open Cert.KernelIdeal Cert.KernelIdeal.Gen

open Idealize.ShloMosaic hiding ix1 ix2 ix3
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

/-- What a tile holds before trip `t`, the loop carrying `v`. -/
def Inv (w : Tl) (O : CellTallies nD τ sig (HIx 4)) (W : Waits sig (HIx 4)) (q : PosShare TreeShare)
    (fx : w.a2.view.ty.Contents (Elt F)) (X : ℕ → BitVec 32) (tb : w.a3.view.ty.Contents (Elt F)) (g₀ g : w.a4.view.ty.Contents (Elt F))
    (t : ℕ) (v : BitVec 32) : sProp 𝕄 :=
  iprop(XSl w w.a9 0 (by decide) fx X (2 * t) ∗ XSl w w.a10 1 (by decide) fx X (2 * t + 1) ∗ XR w fx (2 * t)
    ∗ OSl w w.a12 0 (by decide) g (2 * t) ∗ OSl w w.a13 1 (by decide) g (2 * t + 1) ∗ OR w g₀ g (2 * t)
    ∗ anyL w w.a6 0 (by decide) ∗ anyL w w.a6 1 (by decide)
    ∗ (∃ f8, (w.a8.view.loc w.th ↦{fullShare} f8) ∗ ⌜Offs w.a8 f8⌝)
    ∗ tabAt w q tb ∗ semVal (w.th, .dma w.a11.sem) 0 ∗ Ow w O W ∗ ⌜v = offW t⌝)

/-- A window at a chunk's first row is the chunk's window. -/
theorem xW_of (w : Tl) {off : Fin S204800.rank → ℕ} {n : ℕ} (hn : n < 50) (e : off = ![w.base + 128 * n])
    {h : ∀ a, off a + S128.size a ≤ S204800.size a} :
    w.a2.slice (Rect.unit (s := S204800) off S128.size h) (fun _ => rfl) = w.xW n hn := by subst e; rfl
theorem oW_of (w : Tl) {off : Fin S204800x128.rank → ℕ} {n : ℕ} (hn : n < 50) (e : off = ![w.base + 128 * n, 0])
    {h : ∀ a, off a + S128x128.size a ≤ S204800x128.size a} :
    w.a4.slice (Rect.unit (s := S204800x128) off S128x128.size h) (fun _ => rfl) = w.oW n hn := by subst e; rfl

theorem off4_at (w : Tl) (t : Fin k1_t1_loop.trips) : k1_off4 w.i t = ![w.base + 128 * (2 * t.val + 2)] :=
  (k1_off4_eq w.i t).trans (by congr 1; unfold Tl.base; omega)
theorem off9_at (w : Tl) (t : Fin k1_t1_loop.trips) : k1_off9 w.i t = ![w.base + 128 * (2 * t.val + 1 + 2)] :=
  (k1_off9_eq w.i t).trans (by congr 1; unfold Tl.base; omega)
theorem off6_at (w : Tl) (t : Fin k1_t1_loop.trips) (r : Fin 2) :
    k1_off6 w.i t (BitVec.ofNat 32 r.val) = ![w.base + 128 * (2 * t.val + r.val), 0] :=
  (k1_off6_eq w.i t r).trans (by congr 1; unfold Tl.base; omega)

theorem ret_then {E : Type → Type*} {α β : Type} (a : α) (f : α → Prog E β) : (Prog.ret a).bind f = f a := rfl

/-- The rows a list names are the output's. -/
theorem rows_out (w : Tl) {b : ℕ} {hb : b < 2} {X : ℕ → BitVec 32} {T : ℕ → ℕ → F .f32} (hXr : ∀ r < 204800, (X r).toNat < 39) {n : ℕ} (hn : n < 50) :
    hasR w b hb (fun l c => T (lstV X (w.base + 128 * n + l)).toNat c)
      ⊢ (hasR w b hb (fun l c => outV X T (w.base + 128 * n + l) c) : sProp 𝕄) := by
  iintro ⟨%f, H, %hf⟩
  iexists f
  isplitl [H]; · iexact H
  ipureintro
  intro l c
  rw [hf l c]
  show T (lstV X (w.base + 128 * n + l.val)).toNat c.val = T ((X (w.base + 128 * n + l.val)).toNat * 50 + (w.base + 128 * n + l.val) % 50) c.val
  rw [lstV_toNat (hXr _ (by have := w.base_le; omega))]

theorem any_of_has (w : Tl) {m : Memref sig .scVector .vmem S2x128 .i32} {b : ℕ} {hb : b < 2} {G : ℕ → BitVec 32} :
    hasL w m b hb G ⊢ (anyL w m b hb : sProp 𝕄) := by
  iintro ⟨%f, H, -⟩
  iexists f
  iexact H

theorem OSl_next (w : Tl) {sm : DmaSems sig S_} {b : ℕ} {hb : b < 2} {g : w.a4.view.ty.Contents (Elt F)} {n : ℕ} (hn : n < 50) :
    (oFl w sm b hb g n hn : sProp 𝕄) ⊢ OSl w sm b hb g (n + 2) :=
  Entails.of_eq (OSl_pos (k := n + 2) ⟨by omega, hn⟩).symm

theorem streamRows : S1950x128.StreamRows 0 := by decide

theorem trips_lt (t : Fin k1_t1_loop.trips) : t.val < 25 := t.isLt

set_option maxHeartbeats 16000000 in
theorem trip (w : Tl) (O : CellTallies nD τ sig (HIx 4)) (W : Waits sig (HIx 4)) (q : PosShare TreeShare)
    {fx : w.a2.view.ty.Contents (Elt F)} {X : ℕ → BitVec 32} {tb : w.a3.view.ty.Contents (Elt F)} {T : ℕ → ℕ → F .f32}
    {g₀ g : w.a4.view.ty.Contents (Elt F)}
    (hX : ∀ j : Fin 204800, w.a2.view.read (Elt F) fx (ix1 j) = X j.val) (hXr : ∀ r < 204800, (X r).toNat < 39)
    (hT : ∀ (r : Fin 1950) (c : Fin 128), w.a3.view.read (Elt F) tb (ix2 r c) = T r.val c.val)
    (hG : ∀ (r : Fin 204800) (c : Fin 128), w.a4.view.read (Elt F) g (ix2 r c) = outV X T r.val c.val)
    (v2 : BitVec 32) (v115 : IVec S16 32) (v117 : IVec S16 1) (c50 : BitVec 32) (t : Fin k1_t1_loop.trips) :
    iprop(Transfers.MayWaits w.th (default : HIx 4) O ∗ Inv w O W q fx X tb g₀ g t.val (offW t.val))
      ⊢ wp frame (wpE (defs₀ (F := F)) 𝒱₀ w.th none) Set.univ
          (k1_t1_body w.i w.a2 w.h2 w.a3 w.h3 w.a4 w.h4 w.a5 w.h5 w.a6 w.h6 w.a7 w.h7 w.a8 w.h8 w.a9 w.a10 w.a11 w.a12 w.a13 v2 v115 v117 c50 t (offW t.val))
          fun v => (Inv w O W q fx X tb g₀ g (t.val + 1) v : sProp 𝕄) := by
  have ht := trips_lt t
  unfold k1_t1_body
  rw [k1_part1_eq_skeleton, k1_part2_eq_skeleton, k1_part3_eq_skeleton, k1_part4_eq_skeleton, k1_part5_eq_skeleton, k1_part6_eq_skeleton, k1_part7_eq_skeleton, k1_part8_eq_skeleton]
  have hchk := chk_ok t.val
  unfold Inv
  rw [XSl_pos (show 2 * t.val < 50 by omega), XSl_pos (show 2 * t.val + 1 < 50 by omega)]
  iintro ⟨#Hmw, H9, H10, HX, HS0, HS1, HR, ⟨%f6, H6⟩, H6', ⟨%f8, H8, %h8⟩, Ht, H11, ⟨%W1, %hW1, HO⟩, -⟩
  sl_exec
  icases H9_dst with ⟨%f5, H5, %h5⟩
  sl_exec
  have h6 := fill8 w.a6 (b := 0) (G := fun l => lstV X (w.base + 128 * (2 * t.val) + l)) (by decide) f6
   (pay_val w (by decide) (o := 0) (by decide) h5 h8 (off3_eq t.val 0) (hchk.1 0))
   (pay_val w (by decide) (o := 16) (by decide) h5 h8 (off3_eq t.val 1) (hchk.1 1))
   (pay_val w (by decide) (o := 32) (by decide) h5 h8 (off3_eq t.val 2) (hchk.1 2))
   (pay_val w (by decide) (o := 48) (by decide) h5 h8 (off3_eq t.val 3) (hchk.1 3))
   (pay_val w (by decide) (o := 64) (by decide) h5 h8 (off3_eq t.val 4) (hchk.1 4))
   (pay_val w (by decide) (o := 80) (by decide) h5 h8 (off3_eq t.val 5) (hchk.1 5))
   (pay_val w (by decide) (o := 96) (by decide) h5 h8 (off3_eq t.val 6) (hchk.1 6))
   (pay_val w (by decide) (o := 112) (by decide) h5 h8 (off3_eq t.val 7) (hchk.1 7))
  ihave Hl := (show _ ⊢ hasL (F := F) w w.a6 0 (by decide) (fun l => lstV X (w.base + 128 * (2 * t.val) + l)) from by
    iintro H
    iexists _
    isplitl [H]; · iexact H
    ipureintro
    exact h6) $$ H6
  iapply (next_x w w.a9 0 (by decide) (X := X) (2 * t.val) (by omega) (cond1_iff t)
    (fun h => issue_x w w.a9 0 (by decide) hX (2 * t.val + 2) _ (xW_of w _ (off4_at w t)))) $$ [H5 H9 H9_src HX]
  · isplitl [H5]; · iexists _; iexact H5
    isplitl [H9]; · iexact H9
    isplitl [H9_src]; · iexact H9_src
    iexact HX
  iintro ⟨H9, HX⟩
  clear h6
  rw [ret_then]
  beta_reduce
  iapply (prev_o w w.a12 0 (by decide) (g₀ := g₀) (2 * t.val) (by omega) ((cond2_iff t).trans (by omega)) (mem_insert_ok hW1 _)
    (fun h hn => wait_o w w.a12 0 (by decide) _ hn)) $$ [HS0 HR HO]
  · isplitl [HS0]; · iexact HS0
    isplitl [HR]; · iexact HR
    isplitl [HO]; · iexact HO
    iexact Hmw
  iintro ⟨HS0, H12, Ho, HR, ⟨%W2, %hW2, HO⟩⟩
  iapply (issue_g w 0 (by decide) (hsp := .inl rfl) (hr := streamRows) hT
    (G := fun l => lstV X (w.base + 128 * (2 * t.val) + l)) (fun l => lstV_lt (hXr _ (by have := w.base_le; omega)))) $$ [Hl HS0 Ht H11]
  · isplitl [Hl]; · iexact Hl
    isplitl [HS0]; · iexact HS0
    isplitl [Ht]; · iexact Ht
    iexact H11
  iintro H11
  iapply (wait_g w 0 (by decide)) $$ [H11 HO]
  · isplitl [H11]; · iexact H11
    isplitl [HO]; · iexact HO
    iexact Hmw
  iintro ⟨HS0, Ht, H6, H11, HO⟩
  ihave HS0 := (rows_out w hXr (show 2 * t.val < 50 by omega)) $$ HS0
  sl_exec
  iapply (issue_o w w.a12 0 (by decide) hG (2 * t.val) _ (oW_of w _ (off6_at w t 0))) $$ [HS0 Ho H12]
  · isplitl [HS0]; · iexact HS0
    isplitl [Ho]; · iexact Ho
    iexact H12
  iintro H12
  sl_exec
  icases H10_dst with ⟨%f5', H5, %h5'⟩
  icases H6' with ⟨%f6', H6'⟩
  sl_exec
  have h6' := fill8 w.a6 (b := 1) (G := fun l => lstV X (w.base + 128 * (2 * t.val + 1) + l)) (by decide) f6'
   (pay_val w (by decide) (o := 0) (by decide) h5' h8 (off8_eq t.val 0) (hchk.2 0))
   (pay_val w (by decide) (o := 16) (by decide) h5' h8 (off8_eq t.val 1) (hchk.2 1))
   (pay_val w (by decide) (o := 32) (by decide) h5' h8 (off8_eq t.val 2) (hchk.2 2))
   (pay_val w (by decide) (o := 48) (by decide) h5' h8 (off8_eq t.val 3) (hchk.2 3))
   (pay_val w (by decide) (o := 64) (by decide) h5' h8 (off8_eq t.val 4) (hchk.2 4))
   (pay_val w (by decide) (o := 80) (by decide) h5' h8 (off8_eq t.val 5) (hchk.2 5))
   (pay_val w (by decide) (o := 96) (by decide) h5' h8 (off8_eq t.val 6) (hchk.2 6))
   (pay_val w (by decide) (o := 112) (by decide) h5' h8 (off8_eq t.val 7) (hchk.2 7))
  ihave Hl := (show _ ⊢ hasL (F := F) w w.a6 1 (by decide) (fun l => lstV X (w.base + 128 * (2 * t.val + 1) + l)) from by
    iintro H
    iexists _
    isplitl [H]; · iexact H
    ipureintro
    exact h6') $$ H6'
  clear h6'
  iapply (next_x w w.a10 1 (by decide) (X := X) (2 * t.val + 1) (by omega) (cond3_iff t)
    (fun h => issue_x w w.a10 1 (by decide) hX (2 * t.val + 1 + 2) _ (xW_of w _ (off9_at w t)))) $$ [H5 H10 H10_src HX]
  · isplitl [H5]; · iexists _; iexact H5
    isplitl [H10]; · iexact H10
    isplitl [H10_src]; · iexact H10_src
    iexact HX
  iintro ⟨H10, HX⟩
  rw [ret_then]
  beta_reduce
  iapply (prev_o w w.a13 1 (by decide) (g₀ := g₀) (2 * t.val + 1) (by omega) ((cond4_iff t).trans (by omega)) (mem_insert_ok (mem_insert_ok hW2 _) _)
    (fun h hn => wait_o w w.a13 1 (by decide) _ hn)) $$ [HS1 HR HO]
  · isplitl [HS1]; · iexact HS1
    isplitl [HR]; · iexact HR
    isplitl [HO]; · iexact HO
    iexact Hmw
  iintro ⟨HS1, H13, Ho, HR, ⟨%W3, %hW3, HO⟩⟩
  iapply (issue_g w 1 (by decide) (hsp := .inl rfl) (hr := streamRows) hT
    (G := fun l => lstV X (w.base + 128 * (2 * t.val + 1) + l)) (fun l => lstV_lt (hXr _ (by have := w.base_le; omega)))) $$ [Hl HS1 Ht H11]
  · isplitl [Hl]; · iexact Hl
    isplitl [HS1]; · iexact HS1
    isplitl [Ht]; · iexact Ht
    iexact H11
  iintro H11
  iapply (wait_g w 1 (by decide)) $$ [H11 HO]
  · isplitl [H11]; · iexact H11
    isplitl [HO]; · iexact HO
    iexact Hmw
  iintro ⟨HS1, Ht, H6', H11, HO⟩
  ihave HS1 := (rows_out w hXr (show 2 * t.val + 1 < 50 by omega)) $$ HS1
  sl_exec
  iapply (issue_o w w.a13 1 (by decide) hG (2 * t.val + 1) _ (oW_of w _ (off6_at w t 1))) $$ [HS1 Ho H13]
  · isplitl [HS1]; · iexact HS1
    isplitl [Ho]; · iexact Ho
    iexact H13
  iintro H13
  sl_exec
  rw [wp_ret]
  isplitl [H9]; · iexact H9
  isplitl [H10]; · iexact H10
  isplitl [HX]; · iexact HX
  isplitl [H12]; · iapply (OSl_next w (show 2 * t.val < 50 by omega)) $$ H12
  isplitl [H13]; · iapply (OSl_next w (show 2 * t.val + 1 < 50 by omega)) $$ H13
  isplitl [HR]; · iexact HR
  isplitl [H6]; · iapply (any_of_has w) $$ H6
  isplitl [H6']; · iapply (any_of_has w) $$ H6'
  isplitl [H8]
  · iexists f8
    isplitl [H8]; · iexact H8
    ipureintro; exact h8
  isplitl [Ht]; · iexact Ht
  isplitl [H11]; · iexact H11
  isplitl [HO]; · iapply (Ow_intro w (mem_insert_ok hW3 _)) $$ HO
  ipureintro
  exact offW_succ t.val

end Cert.Proof
-- ==== Proof.Parts.lean ====
/-
  An array held whole is held by its parts: the two slots of a scratch, the chunks of the index array and of the
  output.
-/
module

public import proofs.«01_k».proof.Proof.Chunks
public import Idealize.ShloMosaic.Lib.Ring

@[expose] public section

noncomputable section

namespace Cert.Proof

open Cert.KernelIdeal Cert.KernelIdeal.Gen

open Idealize.ShloMosaic hiding ix1 ix2 ix3
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

/-- A rectangle's elements, among the view's. -/
abbrev partSet {κ : Kind} {sp : Space} {s : Shape} {e : EltTy} (v : View sig κ sp s e) (r : Rect s) : Finset v.ty.Idx := (v.slice r).set

section Sets
variable {κ : Kind} {sp : Space} {s : Shape} {e : EltTy} (v : View sig κ sp s e) {T : Type} [Fintype T] (r : T → Rect s)

/-- A view's elements are those of rectangles covering it, -/
theorem set_cover (h : ∀ x : s.Idx, ∃ t, x ∈ (r t).set) : (Finset.univ.biUnion fun t => partSet v (r t)) = v.set := by
  ext i
  constructor
  · intro hi
    obtain ⟨t, -, hi⟩ := Finset.mem_biUnion.mp hi
    exact v.set_slice_subset (r t) hi
  · intro hi
    obtain ⟨x, -, rfl⟩ := Finset.mem_map.mp hi
    obtain ⟨t, ht⟩ := h x
    exact Finset.mem_biUnion.mpr ⟨t, Finset.mem_univ _, by rw [partSet, View.set_slice]; exact Finset.mem_map_of_mem _ ht⟩

/-- and disjoint rectangles' elements are disjoint. -/
theorem set_apart (h : ∀ t t', t ≠ t' → ∀ x ∈ (r t).set, x ∉ (r t').set) (t t' : T) (ht : t ≠ t') :
    Disjoint (v.slice (r t)).set (v.slice (r t')).set := by
  rw [View.set_slice, View.set_slice, Finset.disjoint_map]
  exact Finset.disjoint_left.mpr (h t t' ht)

end Sets

/-! ## The slots -/

def rectL (b : Fin 2) : Rect S2x128 := Rect.unit (s := S2x128) ![b.val, 0] S1x128.size (inbL b.isLt)
def rectR (b : Fin 2) : Rect S2x128x128 := Rect.unit (s := S2x128x128) ![b.val, 0, 0] S1x128x128.size (inbR b.isLt)

theorem mem_rectL (b : Fin 2) (x : S2x128.Idx) : x ∈ (rectL b).set ↔ x 0 = b := by
  unfold rectL
  rw [Rect.mem_set_unit]
  constructor
  · intro h
    have h0 : b.val ≤ (x 0).val ∧ (x 0).val < b.val + 1 := h 0
    exact Fin.ext (by omega)
  · rintro rfl a
    match a with
    | ⟨0, _⟩ => exact ⟨Nat.le_refl _, Nat.lt_succ_self _⟩
    | ⟨1, _⟩ => exact ⟨Nat.zero_le _, by have h : (x 1).val < 128 := (x 1).isLt; show (x 1).val < 0 + 128; omega⟩

theorem mem_rectR (b : Fin 2) (x : S2x128x128.Idx) : x ∈ (rectR b).set ↔ x 0 = b := by
  unfold rectR
  rw [Rect.mem_set_unit]
  constructor
  · intro h
    have h0 : b.val ≤ (x 0).val ∧ (x 0).val < b.val + 1 := h 0
    exact Fin.ext (by omega)
  · rintro rfl a
    match a with
    | ⟨0, _⟩ => exact ⟨Nat.le_refl _, Nat.lt_succ_self _⟩
    | ⟨1, _⟩ => exact ⟨Nat.zero_le _, by have h : (x 1).val < 128 := (x 1).isLt; show (x 1).val < 0 + 128; omega⟩
    | ⟨2, _⟩ => exact ⟨Nat.zero_le _, by have h : (x 2).val < 128 := (x 2).isLt; show (x 2).val < 0 + 128; omega⟩

theorem two (Φ : Fin 2 → sProp 𝕄) : bigSep Finset.univ Φ = iprop(Φ 0 ∗ Φ 1) := bigSep_fin_two Φ

section Slots
variable (w : Tl)

theorem apart_L (m : Memref sig .scVector .vmem S2x128 .i32) (b b' : Fin 2) (h : b ≠ b') :
    Disjoint (m.view.slice (rectL b)).set (m.view.slice (rectL b')).set :=
  set_apart m.view rectL (fun t t' ht x hx hx' => ht (((mem_rectL t x).mp hx).symm.trans ((mem_rectL t' x).mp hx'))) b b' h
theorem cover_L {m : Memref sig .scVector .vmem S2x128 .i32} (hm : m.IsWhole) :
    (Finset.univ.biUnion fun b : Fin 2 => partSet m.view (rectL b)) = (Finset.univ : Finset m.view.ty.Idx) :=
  (set_cover m.view rectL fun x => ⟨x 0, (mem_rectL _ x).mpr rfl⟩).trans hm.set_eq_univ
theorem apart_R (m : Memref sig .scVector .vmem S2x128x128 .f32) (b b' : Fin 2) (h : b ≠ b') :
    Disjoint (m.view.slice (rectR b)).set (m.view.slice (rectR b')).set :=
  set_apart m.view rectR (fun t t' ht x hx hx' => ht (((mem_rectR t x).mp hx).symm.trans ((mem_rectR t' x).mp hx'))) b b' h
theorem cover_R {m : Memref sig .scVector .vmem S2x128x128 .f32} (hm : m.IsWhole) :
    (Finset.univ.biUnion fun b : Fin 2 => partSet m.view (rectR b)) = (Finset.univ : Finset m.view.ty.Idx) :=
  (set_cover m.view rectR fun x => ⟨x 0, (mem_rectR _ x).mpr rfl⟩).trans hm.set_eq_univ

/-- A list held whole is its two rows, -/
theorem split_L {m : Memref sig .scVector .vmem S2x128 .i32} (hm : m.IsWhole) (f : m.view.ty.Contents (Elt F)) :
    (m.view.loc w.th ↦{fullShare} f : sProp 𝕄) ⊢ iprop(anyL w m 0 (by decide) ∗ anyL w m 1 (by decide)) := by
  refine (Entails.of_eq (Ring.pointsTo_blocks (ℓ := m.view.loc w.th) (fun b : Fin 2 => (m.view.slice (rectL b)).set) (apart_L m) (cover_L hm) f)).trans ?_
  refine (Entails.of_eq (two _)).trans ?_
  iintro ⟨H0, H1⟩
  isplitl [H0]
  · iexists f; iexact H0
  · iexists f; iexact H1

/-- and its two rows are it. -/
theorem join_L {m : Memref sig .scVector .vmem S2x128 .i32} (hm : m.IsWhole) :
    iprop(anyL w m 0 (by decide) ∗ anyL w m 1 (by decide)) ⊢ (iprop(∃ f, m.view.loc w.th ↦{fullShare} f) : sProp 𝕄) := by
  iintro ⟨⟨%f0, H0⟩, H1⟩
  iapply (Ring.pointsTo_blocks_join_exists (ℓ := m.view.loc w.th) (fun b : Fin 2 => (m.view.slice (rectL b)).set) (apart_L m) (cover_L hm) f0)
  iapply (Entails.of_eq (two _).symm)
  isplitl [H0]
  · iexists f0; iexact H0
  · iexact H1

/-- The rows' buffer held whole is its two halves, -/
theorem split_R (f : w.a7.view.ty.Contents (Elt F)) :
    (w.a7.view.loc w.th ↦{fullShare} f : sProp 𝕄) ⊢ iprop(anyR w 0 (by decide) ∗ anyR w 1 (by decide)) := by
  refine (Entails.of_eq (Ring.pointsTo_blocks (ℓ := w.a7.view.loc w.th) (fun b : Fin 2 => (w.a7.view.slice (rectR b)).set) (apart_R w.a7) (cover_R w.h7) f)).trans ?_
  refine (Entails.of_eq (two _)).trans ?_
  iintro ⟨H0, H1⟩
  isplitl [H0]
  · iexists f; iexact H0
  · iexists f; iexact H1

/-- and its two halves are it. -/
theorem join_R : iprop(anyR w 0 (by decide) ∗ anyR w 1 (by decide)) ⊢ (iprop(∃ f, w.a7.view.loc w.th ↦{fullShare} f) : sProp 𝕄) := by
  iintro ⟨⟨%f0, H0⟩, H1⟩
  iapply (Ring.pointsTo_blocks_join_exists (ℓ := w.a7.view.loc w.th) (fun b : Fin 2 => (w.a7.view.slice (rectR b)).set) (apart_R w.a7) (cover_R w.h7) f0)
  iapply (Entails.of_eq (two _).symm)
  isplitl [H0]
  · iexists f0; iexact H0
  · iexact H1

end Slots

end Cert.Proof
-- ==== Proof.Body.lean ====
/-
  One tile's task: the offsets written, the first two chunks' copies issued, the loop, the last two chunks waited for.
-/
module

public import proofs.«01_k».proof.Proof.Trip
public import proofs.«01_k».proof.Proof.Parts

@[expose] public section

noncomputable section

namespace Cert.Proof

open Cert.KernelIdeal Cert.KernelIdeal.Gen

open Idealize.ShloMosaic hiding ix1 ix2 ix3
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

/-! ## The offsets -/

/-- The lane numbers. -/
abbrev lanes : IVec S16 32 := iota .scVector S16 32 [0] iota_S16_d0_w32_scVector

/-- What each of the twelve stores writes: the positions from its first word. -/
def Pos (o : ℕ) (p : S16.Idx → BitVec 32) : Prop := ∀ l : Fin 16, p (ix1 l) = BitVec.ofNat 32 ((o + l.val) % 50)

theorem pos0 : Pos 0 k1_pay23 := by unfold Pos; decide +kernel
theorem pos1 : Pos 16 k1_pay24 := by unfold Pos; decide +kernel
theorem pos2 : Pos 32 k1_pay25 := by unfold Pos; decide +kernel
theorem pos3 : Pos 48 (k1_pay28 k1_pay26 k1_pay27 50#32) := by unfold Pos; decide +kernel
theorem pos4 : Pos 64 (k1_pay29 lanes) := by unfold Pos; decide +kernel
theorem pos5 : Pos 80 (k1_pay30 lanes) := by unfold Pos; decide +kernel
theorem pos6 : Pos 96 (k1_pay31 lanes) := by unfold Pos; decide +kernel
theorem pos7 : Pos 112 (k1_pay34 (k1_pay32 lanes) (k1_pay33 lanes) 50#32) := by unfold Pos; decide +kernel
theorem pos8 : Pos 128 (k1_pay35 lanes) := by unfold Pos; decide +kernel
theorem pos9 : Pos 144 (k1_pay36 lanes) := by unfold Pos; decide +kernel
theorem pos10 : Pos 160 (k1_pay37 lanes) := by unfold Pos; decide +kernel
theorem pos11 : Pos 176 (k1_pay40 (k1_pay38 lanes) (k1_pay39 lanes) 50#32) := by unfold Pos; decide +kernel

theorem inbF {o : ℕ} (ho : o + 16 ≤ 192) : ∀ a, (![o] : Fin 1 → ℕ) a + S16.size a ≤ S192.size a := fun a => by
  match a with
  | ⟨0, _⟩ => exact ho

/-- The first `o` offsets are the positions. -/
def OffsTo (m : Memref sig .scVector .vmem S192 .i32) (f : m.view.ty.Contents (Elt F)) (o : ℕ) : Prop :=
  ∀ k : Fin 192, k.val < o → m.view.read (Elt F) f (ix1 k) = BitVec.ofNat 32 (k.val % 50)

/-- Contents after a store of sixteen offsets. -/
abbrev offW16 (m : Memref sig .scVector .vmem S192 .i32) {o : ℕ} (ho : o + 16 ≤ 192) (f : m.view.ty.Contents (Elt F))
    (p : S16.Idx → BitVec 32) : m.view.ty.Contents (Elt F) :=
  (m.access (Rect.unit (s := S192) ![o] S16.size (inbF ho))).write (Elt F) f p Finset.univ

/-- A store of sixteen offsets extends the positions. -/
theorem offsTo_store (m : Memref sig .scVector .vmem S192 .i32) {o : ℕ} (ho : o + 16 ≤ 192) {f : m.view.ty.Contents (Elt F)}
    (h : OffsTo m f o) {p : S16.Idx → BitVec 32} (hp : Pos o p) : OffsTo m (offW16 m ho f p) (o + 16) := by
  intro k hk
  by_cases hko : k.val < o
  · refine (View.read_slice_write_of_not_mem (v := m.view) (Rect.unit (s := S192) ![o] S16.size (inbF ho)) f p Finset.univ ?_).trans (h k hko)
    intro hm
    obtain ⟨x, -, hx⟩ := Finset.mem_map.mp hm
    have h1 : ((Rect.unit (s := S192) ![o] S16.size (inbF ho)).emb x 0).val = o + 1 * (x 0).val := rfl
    rw [hx] at h1
    have h2 : k.val = o + 1 * (x 0).val := h1
    omega
  · have hx : (Rect.unit (s := S192) ![o] S16.size (inbF ho)).emb (ix1 (⟨k.val - o, by omega⟩ : Fin 16) : S16.Idx) = ix1 k := by
      funext a
      match a with
      | ⟨0, _⟩ => exact Fin.ext (show o + 1 * (k.val - o) = k.val by omega)
    rw [← hx]
    refine (View.read_slice_write_emb (v := m.view) (Rect.unit (s := S192) ![o] S16.size (inbF ho)) f p (Finset.mem_univ _)).trans ?_
    rw [hp]
    exact congrArg (fun n => BitVec.ofNat 32 (n % 50)) (show o + (k.val - o) = k.val by omega)

/-- The twelve stores leave the positions. -/
theorem offs_fill (m : Memref sig .scVector .vmem S192 .i32) (f : m.view.ty.Contents (Elt F)) :
    Offs m (offW16 m (o := 176) (by decide) (offW16 m (o := 160) (by decide) (offW16 m (o := 144) (by decide) (offW16 m (o := 128) (by decide)
      (offW16 m (o := 112) (by decide) (offW16 m (o := 96) (by decide) (offW16 m (o := 80) (by decide) (offW16 m (o := 64) (by decide)
      (offW16 m (o := 48) (by decide) (offW16 m (o := 32) (by decide) (offW16 m (o := 16) (by decide) (offW16 m (o := 0) (by decide)
        f k1_pay23) k1_pay24) k1_pay25) (k1_pay28 k1_pay26 k1_pay27 50#32)) (k1_pay29 lanes)) (k1_pay30 lanes)) (k1_pay31 lanes))
        (k1_pay34 (k1_pay32 lanes) (k1_pay33 lanes) 50#32)) (k1_pay35 lanes)) (k1_pay36 lanes)) (k1_pay37 lanes))
        (k1_pay40 (k1_pay38 lanes) (k1_pay39 lanes) 50#32)) := by
  have u0 : OffsTo m f 0 := fun k hk => absurd hk (Nat.not_lt_zero _)
  have u1 := offsTo_store m (o := 0) (by decide) u0 pos0
  have u2 := offsTo_store m (o := 16) (by decide) u1 pos1
  have u3 := offsTo_store m (o := 32) (by decide) u2 pos2
  have u4 := offsTo_store m (o := 48) (by decide) u3 pos3
  have u5 := offsTo_store m (o := 64) (by decide) u4 pos4
  have u6 := offsTo_store m (o := 80) (by decide) u5 pos5
  have u7 := offsTo_store m (o := 96) (by decide) u6 pos6
  have u8 := offsTo_store m (o := 112) (by decide) u7 pos7
  have u9 := offsTo_store m (o := 128) (by decide) u8 pos8
  have u10 := offsTo_store m (o := 144) (by decide) u9 pos9
  have u11 := offsTo_store m (o := 160) (by decide) u10 pos10
  have u12 := offsTo_store m (o := 176) (by decide) u11 pos11
  exact fun k => u12 k k.isLt

/-! ## The task -/

/-- What a tile is handed: its scratch and semaphores, its chunks of the index array and of the output, a share of the table. -/
def TileAt (w : Tl) (q : PosShare TreeShare) (fx : w.a2.view.ty.Contents (Elt F)) (tb : w.a3.view.ty.Contents (Elt F))
    (g : w.a4.view.ty.Contents (Elt F)) : sProp 𝕄 :=
  iprop((bigSep Finset.univ fun n : Fin 50 => xAt w fx n.val n.isLt) ∗ (bigSep Finset.univ fun n : Fin 50 => oAt w g n.val n.isLt) ∗ tabAt w q tb)

/-- A tile's scratch, at any contents, and its five semaphores at zero. -/
def Scratch (w : Tl) : sProp 𝕄 :=
  iprop((∃ f, w.a5.view.loc w.th ↦{fullShare} f) ∗ (∃ f, w.a6.view.loc w.th ↦{fullShare} f) ∗ (∃ f, w.a7.view.loc w.th ↦{fullShare} f)
    ∗ (∃ f, w.a8.view.loc w.th ↦{fullShare} f)
    ∗ semVal (w.th, .dma w.a9.sem) 0 ∗ semVal (w.th, .dma w.a10.sem) 0 ∗ semVal (w.th, .dma w.a11.sem) 0
    ∗ semVal (w.th, .dma w.a12.sem) 0 ∗ semVal (w.th, .dma w.a13.sem) 0)

theorem XR_start (w : Tl) {fx : w.a2.view.ty.Contents (Elt F)} :
    (bigSep Finset.univ fun n : Fin 50 => xAt w fx n.val n.isLt : sProp 𝕄)
      ⊢ iprop(xAt w fx 0 (by decide) ∗ xAt w fx 1 (by decide) ∗ XR w fx 0) := by
  have e : (Finset.univ : Finset (Fin 50))
      = insert ⟨0, by decide⟩ (insert ⟨1, by decide⟩ (Finset.univ.filter fun n : Fin 50 => n.val ≠ 0 ∧ n.val ≠ 0 + 1)) := by decide
  unfold XR
  conv_lhs => rw [e]
  rw [bigSep_insert (by decide), bigSep_insert (by decide)]
  exact Entails.refl _

theorem XR_end (w : Tl) {fx : w.a2.view.ty.Contents (Elt F)} :
    XR w fx 50 ⊢ (bigSep Finset.univ fun n : Fin 50 => xAt w fx n.val n.isLt : sProp 𝕄) := by
  have e : (Finset.univ.filter fun n : Fin 50 => n.val ≠ 50 ∧ n.val ≠ 50 + 1) = Finset.univ := by decide
  unfold XR
  rw [e]

theorem OR_start (w : Tl) {g₀ g : w.a4.view.ty.Contents (Elt F)} :
    (bigSep Finset.univ fun n : Fin 50 => oAt w g₀ n.val n.isLt : sProp 𝕄) ⊢ OR w g₀ g 0 := by
  have e : (Finset.univ.filter fun n : Fin 50 => n.val + 2 ≠ 0 ∧ n.val + 2 ≠ 0 + 1) = Finset.univ := by decide
  unfold OR
  rw [e]
  exact Entails.of_eq (bigSep_congr fun n _ => (if_neg (Nat.not_lt_zero _)).symm)

theorem OR_end (w : Tl) {g₀ g : w.a4.view.ty.Contents (Elt F)} :
    iprop(oAt w g 48 (by decide) ∗ oAt w g 49 (by decide) ∗ OR w g₀ g 50) ⊢ (bigSep Finset.univ fun n : Fin 50 => oAt w g n.val n.isLt : sProp 𝕄) := by
  have e : (Finset.univ : Finset (Fin 50))
      = insert ⟨48, by decide⟩ (insert ⟨49, by decide⟩ (Finset.univ.filter fun n : Fin 50 => n.val + 2 ≠ 50 ∧ n.val + 2 ≠ 50 + 1)) := by decide
  unfold OR
  conv_rhs => rw [e]
  rw [bigSep_insert (by decide), bigSep_insert (by decide)]
  exact BIClass.sep_mono (Entails.refl _) (BIClass.sep_mono (Entails.refl _) (Entails.of_eq (bigSep_congr fun n _ => if_pos n.isLt)))

theorem off1_at (w : Tl) (b : Fin 2) : k1_off1 w.i (BitVec.ofNat 32 (128 * b.val)) = ![w.base + 128 * b.val] :=
  k1_off1_eq w.i b

/-- The loop's invariant, with the leave to wait. -/
def LInv (w : Tl) (O : CellTallies nD τ sig (HIx 4)) (W : Waits sig (HIx 4)) (q : PosShare TreeShare)
    (fx : w.a2.view.ty.Contents (Elt F)) (X : ℕ → BitVec 32) (tb : w.a3.view.ty.Contents (Elt F)) (g₀ g : w.a4.view.ty.Contents (Elt F))
    (t : ℕ) (v : BitVec 32) : sProp 𝕄 :=
  iprop(Transfers.MayWaits w.th (default : HIx 4) O ∗ Inv w O W q fx X tb g₀ g t v)

/-- A trip keeps it. -/
theorem LInv_trip (w : Tl) (O : CellTallies nD τ sig (HIx 4)) (W : Waits sig (HIx 4)) (q : PosShare TreeShare)
    {fx : w.a2.view.ty.Contents (Elt F)} {X : ℕ → BitVec 32} {tb : w.a3.view.ty.Contents (Elt F)} {T : ℕ → ℕ → F .f32}
    {g₀ g : w.a4.view.ty.Contents (Elt F)}
    (hX : ∀ j : Fin 204800, w.a2.view.read (Elt F) fx (ix1 j) = X j.val) (hXr : ∀ r < 204800, (X r).toNat < 39)
    (hT : ∀ (r : Fin 1950) (c : Fin 128), w.a3.view.read (Elt F) tb (ix2 r c) = T r.val c.val)
    (hG : ∀ (r : Fin 204800) (c : Fin 128), w.a4.view.read (Elt F) g (ix2 r c) = outV X T r.val c.val)
    (v2 : BitVec 32) (v115 : IVec S16 32) (v117 : IVec S16 1) (c50 : BitVec 32) (t : Fin k1_t1_loop.trips) (v : BitVec 32) :
    LInv w O W q fx X tb g₀ g t.val v
      ⊢ wp frame (wpE (defs₀ (F := F)) 𝒱₀ w.th none) Set.univ
          (k1_t1_body w.i w.a2 w.h2 w.a3 w.h3 w.a4 w.h4 w.a5 w.h5 w.a6 w.h6 w.a7 w.h7 w.a8 w.h8 w.a9 w.a10 w.a11 w.a12 w.a13 v2 v115 v117 c50 t v)
          fun v => (LInv w O W q fx X tb g₀ g (t.val + 1) v : sProp 𝕄) := by
  by_cases hv : v = offW t.val
  · subst hv
    unfold LInv
    iintro ⟨#Hmw, HI⟩
    iapply (wp_frame_l (E := Set.univ) (wpE := wpE (defs₀ (F := F)) 𝒱₀ w.th none) (Fr := frame) (R := Transfers.MayWaits w.th (default : HIx 4) O))
    isplitr; · iexact Hmw
    iapply (trip w O W q hX hXr hT hG v2 v115 v117 c50 t)
    isplitr; · iexact Hmw
    iexact HI
  · unfold LInv Inv
    iintro ⟨-, -, -, -, -, -, -, -, -, -, -, -, -, %h⟩
    exact absurd h hv

/-- It holds at first. -/
theorem LInv_start (w : Tl) {O : CellTallies nD τ sig (HIx 4)} {W : Waits sig (HIx 4)} {q : PosShare TreeShare}
    {fx : w.a2.view.ty.Contents (Elt F)} {X : ℕ → BitVec 32} {tb : w.a3.view.ty.Contents (Elt F)}
    {g₀ g : w.a4.view.ty.Contents (Elt F)} :
    iprop(Transfers.MayWaits w.th (default : HIx 4) O ∗ xFl w w.a9 0 (by decide) fx X 0 (by decide) ∗ xFl w w.a10 1 (by decide) fx X 1 (by decide)
      ∗ XR w fx 0 ∗ anyR w 0 (by decide) ∗ semVal (w.th, .dma w.a12.sem) 0 ∗ anyR w 1 (by decide) ∗ semVal (w.th, .dma w.a13.sem) 0
      ∗ OR w g₀ g 0 ∗ anyL w w.a6 0 (by decide) ∗ anyL w w.a6 1 (by decide)
      ∗ (∃ f8, (w.a8.view.loc w.th ↦{fullShare} f8) ∗ ⌜Offs w.a8 f8⌝) ∗ tabAt w q tb ∗ semVal (w.th, .dma w.a11.sem) 0 ∗ owes w.th O W)
    ⊢ (LInv w O W q fx X tb g₀ g 0 0#32 : sProp 𝕄) := by
  unfold LInv Inv
  rw [XSl_pos (show 2 * 0 < 50 by decide), XSl_pos (show 2 * 0 + 1 < 50 by decide),
    OSl_neg (show ¬ (2 ≤ 2 * 0 ∧ 2 * 0 - 2 < 50) by decide), OSl_neg (show ¬ (2 ≤ 2 * 0 + 1 ∧ 2 * 0 + 1 - 2 < 50) by decide)]
  iintro ⟨Hmw, H9, H10, HX, H7, H12, H7', H13, HR, H6, H6', H8, Ht, H11, HO⟩
  isplitl [Hmw]; · iexact Hmw
  isplitl [H9]; · iexact H9
  isplitl [H10]; · iexact H10
  isplitl [HX]; · iexact HX
  isplitl [H7 H12]
  · isplitl [H7]; · iexact H7
    iexact H12
  isplitl [H7' H13]
  · isplitl [H7']; · iexact H7'
    iexact H13
  isplitl [HR]; · iexact HR
  isplitl [H6]; · iexact H6
  isplitl [H6']; · iexact H6'
  isplitl [H8]; · iexact H8
  isplitl [Ht]; · iexact Ht
  isplitl [H11]; · iexact H11
  isplitl [HO]; · iapply (Ow_intro w (fun p hp => .inl hp)) $$ HO
  ipureintro; rfl

/-- What the loop leaves. -/
theorem LInv_end (w : Tl) {O : CellTallies nD τ sig (HIx 4)} {W : Waits sig (HIx 4)} {q : PosShare TreeShare}
    {fx : w.a2.view.ty.Contents (Elt F)} {X : ℕ → BitVec 32} {tb : w.a3.view.ty.Contents (Elt F)}
    {g₀ g : w.a4.view.ty.Contents (Elt F)} {v : BitVec 32} {t : ℕ} (ht : t = 25) :
    (LInv w O W q fx X tb g₀ g t v : sProp 𝕄) ⊢ iprop(anyL w w.a5 0 (by decide) ∗ semVal (w.th, .dma w.a9.sem) 0
      ∗ anyL w w.a5 1 (by decide) ∗ semVal (w.th, .dma w.a10.sem) 0 ∗ (bigSep Finset.univ fun n : Fin 50 => xAt w fx n.val n.isLt)
      ∗ oFl w w.a12 0 (by decide) g 48 (by decide) ∗ oFl w w.a13 1 (by decide) g 49 (by decide) ∗ OR w g₀ g 50
      ∗ anyL w w.a6 0 (by decide) ∗ anyL w w.a6 1 (by decide) ∗ (∃ f8, (w.a8.view.loc w.th ↦{fullShare} f8))
      ∗ tabAt w q tb ∗ semVal (w.th, .dma w.a11.sem) 0 ∗ Ow w O W) := by
  subst ht
  unfold LInv Inv
  rw [XSl_neg (show ¬ 2 * 25 < 50 by decide), XSl_neg (show ¬ 2 * 25 + 1 < 50 by decide),
    OSl_pos (show 2 ≤ 2 * 25 ∧ 2 * 25 - 2 < 50 by decide), OSl_pos (show 2 ≤ 2 * 25 + 1 ∧ 2 * 25 + 1 - 2 < 50 by decide)]
  iintro ⟨-, ⟨H5, H9⟩, ⟨H5', H10⟩, HX, HS0, HS1, HR, H6, H6', ⟨%f8, H8, -⟩, Ht, H11, HO, -⟩
  isplitl [H5]; · iexact H5
  isplitl [H9]; · iexact H9
  isplitl [H5']; · iexact H5'
  isplitl [H10]; · iexact H10
  isplitl [HX]; · iapply (XR_end w) $$ HX
  isplitl [HS0]; · iexact HS0
  isplitl [HS1]; · iexact HS1
  isplitl [HR]; · iexact HR
  isplitl [H6]; · iexact H6
  isplitl [H6']; · iexact H6'
  isplitl [H8]; · iexists f8; iexact H8
  isplitl [Ht]; · iexact Ht
  isplitl [H11]; · iexact H11
  iexact HO

set_option maxHeartbeats 16000000 in
/-- A tile's task leaves its chunks of the output at the output's values. -/
theorem body (w : Tl) (O : CellTallies nD τ sig (HIx 4)) (W : Waits sig (HIx 4)) (q : PosShare TreeShare)
    {fx : w.a2.view.ty.Contents (Elt F)} {X : ℕ → BitVec 32} {tb : w.a3.view.ty.Contents (Elt F)} {T : ℕ → ℕ → F .f32}
    {g₀ g : w.a4.view.ty.Contents (Elt F)}
    (hX : ∀ j : Fin 204800, w.a2.view.read (Elt F) fx (ix1 j) = X j.val) (hXr : ∀ r < 204800, (X r).toNat < 39)
    (hT : ∀ (r : Fin 1950) (c : Fin 128), w.a3.view.read (Elt F) tb (ix2 r c) = T r.val c.val)
    (hG : ∀ (r : Fin 204800) (c : Fin 128), w.a4.view.read (Elt F) g (ix2 r c) = outV X T r.val c.val) :
    iprop(Transfers.MayWaits w.th (default : HIx 4) O ∗ Scratch w ∗ TileAt w q fx tb g₀ ∗ owes w.th O W)
      ⊢ wp frame (wpE (defs₀ (F := F)) 𝒱₀ w.th none) Set.univ
          (cc1__sc_body w.i w.a2 w.h2 w.a3 w.h3 w.a4 w.h4 w.a5 w.h5 w.a6 w.h6 w.a7 w.h7 w.a8 w.h8 w.a9 w.a10 w.a11 w.a12 w.a13)
          fun _ => (iprop(Scratch w ∗ TileAt w q fx tb g ∗ Ow w O W) : sProp 𝕄) := by
  rw [cc1__sc_body_eq_skeleton]
  unfold cc1__sc_body_skel
  rw [k1_part9_eq_skeleton, k1_part10_eq_skeleton, k1_part11_eq_skeleton, k1_part12_eq_skeleton]
  unfold Scratch TileAt
  iintro ⟨#Hmw, ⟨⟨%f5, H5⟩, ⟨%f6, H6⟩, ⟨%f7, H7⟩, ⟨%f8, H8⟩, H9, H10, H11, H12, H13⟩, ⟨HX, HO4, Ht⟩, HO⟩
  ihave H5 := (split_L w w.h5 f5) $$ H5
  icases H5 with ⟨H5, H5'⟩
  ihave H6 := (split_L w w.h6 f6) $$ H6
  icases H6 with ⟨H6, H6'⟩
  ihave H7 := (split_R w f7) $$ H7
  icases H7 with ⟨H7, H7'⟩
  ihave HX := (XR_start w) $$ HX
  icases HX with ⟨Hx0, Hx1, HX⟩
  ihave HR := (OR_start w (g := g)) $$ HO4
  sl_exec
  ihave H8 := (show _ ⊢ (iprop(∃ f8, (w.a8.view.loc w.th ↦{fullShare} f8) ∗ ⌜Offs w.a8 f8⌝) : sProp 𝕄) from by
    iintro H
    iexists _
    isplitl [H]; · iexact H
    ipureintro
    exact offs_fill w.a8 f8) $$ H8
  iapply (issue_x w w.a9 0 (by decide) hX 0 (by decide) (xW_of w _ (off1_at w 0))) $$ [H5 Hx0 H9]
  · isplitl [H5]; · iexact H5
    isplitl [Hx0]; · iexact Hx0
    iexact H9
  iintro H9
  iapply (issue_x w w.a10 1 (by decide) hX 1 (by decide) (xW_of w _ (off1_at w 1))) $$ [H5' Hx1 H10]
  · isplitl [H5']; · iexact H5'
    isplitl [Hx1]; · iexact Hx1
    iexact H10
  iintro H10
  rw [ret_then]
  beta_reduce
  sl_for (LInv w O W q fx X tb g₀ g) $$ [H9 H10 HX H12 H13 H7 H7' HR H6 H6' H8 Ht H11 HO]
  case region =>
    intro k v
    exact LInv_trip w O W q hX hXr hT hG _ _ _ _ k v
  · iapply (LInv_start w)
    isplitr; · iexact Hmw
    isplitl [H9]; · iexact H9
    isplitl [H10]; · iexact H10
    isplitl [HX]; · iexact HX
    isplitl [H7]; · iexact H7
    isplitl [H12]; · iexact H12
    isplitl [H7']; · iexact H7'
    isplitl [H13]; · iexact H13
    isplitl [HR]; · iexact HR
    isplitl [H6]; · iexact H6
    isplitl [H6']; · iexact H6'
    isplitl [H8]; · iexact H8
    isplitl [Ht]; · iexact Ht
    isplitl [H11]; · iexact H11
    iexact HO
  iintro %v HI
  ihave HI := (LInv_end w (O := O) (W := W) (q := q) (fx := fx) (X := X) (tb := tb) (g₀ := g₀) (g := g) (v := v) (by decide +kernel : k1_t1_loop.trips = 25)) $$ HI
  icases HI with ⟨H5, H9, H5', H10, HX, HS0, HS1, HR, H6, H6', H8, Ht, H11, ⟨%W1, %hW1, HO⟩⟩
  unfold body.sl.prog.cont_1
  iapply (wait_o w w.a12 0 (by decide) 48 (by decide)) $$ [HS0 HO]
  · isplitl [HS0]; · iexact HS0
    isplitl [HO]; · iexact HO
    iexact Hmw
  iintro ⟨Ho0, H7, H12, HO⟩
  rw [ret_then]
  beta_reduce
  rw [Prog.pure_eq_ret, wp_ret]
  imodintro
  iapply (wait_o w w.a13 1 (by decide) 49 (by decide)) $$ [HS1 HO]
  · isplitl [HS1]; · iexact HS1
    isplitl [HO]; · iexact HO
    iexact Hmw
  iintro ⟨Ho1, H7', H13, HO⟩
  rw [ret_then]
  beta_reduce
  rw [wp_ret]
  ihave H5 := (join_L w w.h5) $$ [H5 H5']
  · isplitl [H5]; · iexact H5
    iexact H5'
  ihave H6 := (join_L w w.h6) $$ [H6 H6']
  · isplitl [H6]; · iexact H6
    iexact H6'
  ihave H7 := (join_R w) $$ [H7 H7']
  · isplitl [H7]; · iexact H7
    iexact H7'
  ihave HR := (OR_end w) $$ [Ho0 Ho1 HR]
  · isplitl [Ho0]; · iexact Ho0
    isplitl [Ho1]; · iexact Ho1
    iexact HR
  isplitl [H5 H6 H7 H8 H9 H10 H11 H12 H13]
  · isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [HX HR Ht]
  · isplitl [HX]; · iexact HX
    isplitl [HR]; · iexact HR
    iexact Ht
  iapply (Ow_intro w (mem_insert_ok (mem_insert_ok hW1 _) _)) $$ HO

end Cert.Proof
-- ==== Proof.Split.lean ====
/-
  A call's arrays, dealt to its 32 tiles: the index array and the output by the chunks of 128 rows — chunk `n` of tile
  `(c, s)` is block `100 s + 50 c + n` —, the table by shares.
-/
module

public import proofs.«01_k».proof.Proof.Body

@[expose] public section

noncomputable section

namespace Cert.Proof

open Cert.KernelIdeal Cert.KernelIdeal.Gen

open Idealize.ShloMosaic
open Idealize.ShloMosaic.ValueIdx
open Idealize.ShloMosaic.SparseCore (S V T)
open Idealize.ShloMosaic.SparseCore.Cfg (HIx Pay)
open Idealize.ShloMosaic.Transfers (dealOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

/-- A call's arrays and scratch, but for the device and the tile. -/
structure Call where
  a2 : Memref sig .scVector .hbm S204800 .i32
  h2 : a2.IsWhole
  a3 : Memref sig .scVector .hbm S1950x128 .f32
  h3 : a3.IsWhole
  a4 : Memref sig .scVector .hbm S204800x128 .f32
  h4 : a4.IsWhole
  a5 : Memref sig .scVector .vmem S2x128 .i32
  h5 : a5.IsWhole
  a6 : Memref sig .scVector .vmem S2x128 .i32
  h6 : a6.IsWhole
  a7 : Memref sig .scVector .vmem S2x128x128 .f32
  h7 : a7.IsWhole
  a8 : Memref sig .scVector .vmem S192 .i32
  h8 : a8.IsWhole
  a9 : DmaSems sig S_
  a10 : DmaSems sig S_
  a11 : DmaSems sig S_
  a12 : DmaSems sig S_
  a13 : DmaSems sig S_

/-- A tile's coordinates. -/
def crd (c : Fin 2) (s : Fin 16) : grid1.Coords :=
  fun | 0 => c | 1 => s | ⟨_ + 2, h⟩ => absurd h (Nat.not_lt.2 (Nat.le_add_left _ _))

/-- The call's tile `(c, s)` on device `d`. -/
def Call.tl (C : Call) (d : Dev nD) (c : Fin 2) (s : Fin 16) : Tl where
  d := d
  i := crd c s
  a2 := C.a2
  h2 := C.h2
  a3 := C.a3
  h3 := C.h3
  a4 := C.a4
  h4 := C.h4
  a5 := C.a5
  h5 := C.h5
  a6 := C.a6
  h6 := C.h6
  a7 := C.a7
  h7 := C.h7
  a8 := C.a8
  h8 := C.h8
  a9 := C.a9
  a10 := C.a10
  a11 := C.a11
  a12 := C.a12
  a13 := C.a13

theorem Call.base_tl (C : Call) (d : Dev nD) (c : Fin 2) (s : Fin 16) : (C.tl d c s).base = 12800 * s.val + 6400 * c.val := rfl

/-! ## An array by its chunks -/

section Pieces
variable {ℓ : Loc nD τ sig} (I : Fin 2 → Fin 16 → Fin 50 → Finset (Idx ℓ))

/-- An array held whole is its pieces, when they are apart and cover it. -/
theorem deal_pieces (hd : ∀ b b' : Fin 2 × Fin 16 × Fin 50, b ≠ b' → Disjoint (I b.1 b.2.1 b.2.2) (I b'.1 b'.2.1 b'.2.2))
    (hc : (Finset.univ.biUnion fun b : Fin 2 × Fin 16 × Fin 50 => I b.1 b.2.1 b.2.2) = Finset.univ) (f : Buf (Elt F) ℓ) :
    (ℓ ↦{fullShare} f : sProp 𝕄) = bigSep Finset.univ fun c => bigSep Finset.univ fun s => bigSep Finset.univ fun n => ℓ ↦[I c s n]{fullShare} f := by
  rw [Ring.pointsTo_blocks (ℓ := ℓ) (fun b : Fin 2 × Fin 16 × Fin 50 => I b.1 b.2.1 b.2.2) hd hc f]
  refine (bigSep_univ_prod _).trans ?_
  exact bigSep_congr fun c _ => bigSep_univ_prod _

end Pieces

/-- Tile `(c, s)`'s share of the table. -/
def tq (c : Fin 2) (s : Fin 16) : PosShare TreeShare := dealOf (dealOf fullShare Finset.univ c) Finset.univ s

/-- An array held whole is held once by each tile, at its share. -/
theorem deal_shares {ℓ : Loc nD τ sig} (f : Buf (Elt F) ℓ) :
    (ℓ ↦{fullShare} f : sProp 𝕄) = bigSep Finset.univ fun c => bigSep Finset.univ fun s => ℓ ↦{tq c s} f := by
  rw [Transfers.pointsTo_deal (ℓ := ℓ) (S := Finset.univ) (f := f) (Finset.univ : Finset (Fin 2)) Finset.univ_nonempty fullShare]
  exact bigSep_congr fun c _ => Transfers.pointsTo_deal (Finset.univ : Finset (Fin 16)) Finset.univ_nonempty _

/-- The three arrays of a call held whole are what the tiles hold of them. -/
theorem deal_call {ℓx ℓt ℓo : Loc nD τ sig} (Ix : Fin 2 → Fin 16 → Fin 50 → Finset (Idx ℓx)) (Io : Fin 2 → Fin 16 → Fin 50 → Finset (Idx ℓo))
    (It : Fin 2 → Fin 16 → Finset (Idx ℓt)) (ht : ∀ c s, It c s = Finset.univ)
    (hdx : ∀ b b' : Fin 2 × Fin 16 × Fin 50, b ≠ b' → Disjoint (Ix b.1 b.2.1 b.2.2) (Ix b'.1 b'.2.1 b'.2.2))
    (hcx : (Finset.univ.biUnion fun b : Fin 2 × Fin 16 × Fin 50 => Ix b.1 b.2.1 b.2.2) = Finset.univ)
    (hdo : ∀ b b' : Fin 2 × Fin 16 × Fin 50, b ≠ b' → Disjoint (Io b.1 b.2.1 b.2.2) (Io b'.1 b'.2.1 b'.2.2))
    (hco : (Finset.univ.biUnion fun b : Fin 2 × Fin 16 × Fin 50 => Io b.1 b.2.1 b.2.2) = Finset.univ)
    (fx : Buf (Elt F) ℓx) (ft : Buf (Elt F) ℓt) (fo : Buf (Elt F) ℓo) :
    (iprop((ℓx ↦{fullShare} fx) ∗ (ℓo ↦{fullShare} fo) ∗ (ℓt ↦{fullShare} ft)) : sProp 𝕄)
      = bigSep Finset.univ fun c => bigSep Finset.univ fun s =>
          iprop((bigSep Finset.univ fun n => ℓx ↦[Ix c s n]{fullShare} fx) ∗ (bigSep Finset.univ fun n => ℓo ↦[Io c s n]{fullShare} fo)
            ∗ ℓt ↦[It c s]{tq c s} ft) := by
  rw [deal_pieces Ix hdx hcx fx, deal_pieces Io hdo hco fo, deal_shares ft]
  simp only [ht, bigSep_sep']

/-! ## The chunks are apart and cover the arrays -/

def rectX (b : Fin 2 × Fin 16 × Fin 50) : Rect S204800 :=
  Rect.unit (s := S204800) ![12800 * b.2.1.val + 6400 * b.1.val + 128 * b.2.2.val] S128.size (fun a => by
    match a with
    | ⟨0, _⟩ =>
      have h0 := b.1.isLt; have h1 := b.2.1.isLt; have h2 := b.2.2.isLt
      show 12800 * b.2.1.val + 6400 * b.1.val + 128 * b.2.2.val + 128 ≤ 204800
      omega)
def rectO (b : Fin 2 × Fin 16 × Fin 50) : Rect S204800x128 :=
  Rect.unit (s := S204800x128) ![12800 * b.2.1.val + 6400 * b.1.val + 128 * b.2.2.val, 0] S128x128.size (fun a => by
    match a with
    | ⟨0, _⟩ =>
      have h0 := b.1.isLt; have h1 := b.2.1.isLt; have h2 := b.2.2.isLt
      show 12800 * b.2.1.val + 6400 * b.1.val + 128 * b.2.2.val + 128 ≤ 204800
      omega
    | ⟨1, _⟩ => exact Nat.le_refl 128)

/-- The tile and chunk row `r` is in. -/
def chunkOf (r : ℕ) (h : r < 204800) : Fin 2 × Fin 16 × Fin 50 :=
  (⟨r / 6400 % 2, Nat.mod_lt _ (by decide)⟩, ⟨r / 12800, by omega⟩, ⟨r / 128 % 50, Nat.mod_lt _ (by decide)⟩)

theorem chunk_iff (b : Fin 2 × Fin 16 × Fin 50) (r : ℕ) (h : r < 204800) :
    (12800 * b.2.1.val + 6400 * b.1.val + 128 * b.2.2.val ≤ r ∧ r < 12800 * b.2.1.val + 6400 * b.1.val + 128 * b.2.2.val + 128)
      ↔ b = chunkOf r h := by
  obtain ⟨c, s, n⟩ := b
  have h0 := c.isLt; have h1 := s.isLt; have h2 := n.isLt
  unfold chunkOf
  simp only [Prod.mk.injEq, Fin.ext_iff]
  omega

theorem mem_rectX (b : Fin 2 × Fin 16 × Fin 50) (x : S204800.Idx) : x ∈ (rectX b).set ↔ b = chunkOf (x 0).val (x 0).isLt := by
  refine Iff.trans ?_ (chunk_iff b (x 0).val (x 0).isLt)
  unfold rectX
  rw [Rect.mem_set_unit]
  constructor
  · intro h; exact h 0
  · intro h a
    match a with
    | ⟨0, _⟩ => exact h

theorem mem_rectO (b : Fin 2 × Fin 16 × Fin 50) (x : S204800x128.Idx) : x ∈ (rectO b).set ↔ b = chunkOf (x 0).val (x 0).isLt := by
  refine Iff.trans ?_ (chunk_iff b (x 0).val (x 0).isLt)
  unfold rectO
  rw [Rect.mem_set_unit]
  constructor
  · intro h; exact h 0
  · intro h a
    match a with
    | ⟨0, _⟩ => exact h
    | ⟨1, _⟩ => exact ⟨Nat.zero_le _, by have h : (x 1).val < 128 := (x 1).isLt; show (x 1).val < 0 + 128; omega⟩

theorem mem_rectT (x : S1950x128.Idx) : x ∈ (Rect.unit (s := S1950x128) ![0, 0] S1950x128.size inb_S1950x128_S1950x128_0_0).set := by
  rw [Rect.mem_set_unit]
  intro a
  match a with
  | ⟨0, _⟩ => exact ⟨Nat.zero_le _, by have h : (x 0).val < 1950 := (x 0).isLt; show (x 0).val < 0 + 1950; omega⟩
  | ⟨1, _⟩ => exact ⟨Nat.zero_le _, by have h : (x 1).val < 128 := (x 1).isLt; show (x 1).val < 0 + 128; omega⟩

namespace Call
variable (C : Call) (d : Dev nD)

theorem apart_X (b b' : Fin 2 × Fin 16 × Fin 50) (h : b ≠ b') : Disjoint (((C.tl d b.1 b.2.1).xW b.2.2.val b.2.2.isLt).view.set) (((C.tl d b'.1 b'.2.1).xW b'.2.2.val b'.2.2.isLt).view.set) :=
  set_apart C.a2.view rectX (fun t t' ht x hx hx' => ht (((mem_rectX t x).mp hx).trans ((mem_rectX t' x).mp hx').symm)) b b' h
theorem cover_X : (Finset.univ.biUnion fun b : Fin 2 × Fin 16 × Fin 50 => ((C.tl d b.1 b.2.1).xW b.2.2.val b.2.2.isLt).view.set) = (Finset.univ : Finset C.a2.view.ty.Idx) :=
  (set_cover C.a2.view rectX fun x => ⟨_, (mem_rectX _ x).mpr rfl⟩).trans C.h2.set_eq_univ
theorem apart_O (b b' : Fin 2 × Fin 16 × Fin 50) (h : b ≠ b') : Disjoint (((C.tl d b.1 b.2.1).oW b.2.2.val b.2.2.isLt).view.set) (((C.tl d b'.1 b'.2.1).oW b'.2.2.val b'.2.2.isLt).view.set) :=
  set_apart C.a4.view rectO (fun t t' ht x hx hx' => ht (((mem_rectO t x).mp hx).trans ((mem_rectO t' x).mp hx').symm)) b b' h
theorem cover_O : (Finset.univ.biUnion fun b : Fin 2 × Fin 16 × Fin 50 => ((C.tl d b.1 b.2.1).oW b.2.2.val b.2.2.isLt).view.set) = (Finset.univ : Finset C.a4.view.ty.Idx) :=
  (set_cover C.a4.view rectO fun x => ⟨_, (mem_rectO _ x).mpr rfl⟩).trans C.h4.set_eq_univ
theorem set_T (c : Fin 2) (s : Fin 16) : (tabS (C.tl d c s)).view.set = (Finset.univ : Finset C.a3.view.ty.Idx) :=
  ((set_cover C.a3.view (fun _ : Unit => Rect.unit (s := S1950x128) ![0, 0] S1950x128.size inb_S1950x128_S1950x128_0_0)
      fun x => ⟨(), mem_rectT x⟩).symm.trans (by rw [Finset.univ_unique, Finset.singleton_biUnion]; rfl)).symm.trans C.h3.set_eq_univ

end Call

end Cert.Proof
-- ==== Proof.Calls.lean ====
/-
  The four calls: what each takes and brings back, its tasks' obligations, and how what a SparseCore is handed splits
  among its tiles. Call `q` reads the words `x q` and the table `t`, and leaves the output holding, in each row, the
  table's row for the row's word and position.
-/
module

public import proofs.«01_k».proof.Proof.Split

@[expose] public section

noncomputable section

namespace Cert.Proof

open Cert.KernelIdeal Cert.KernelIdeal.Gen

open Idealize.ShloMosaic hiding ix1 ix2 ix3
open Idealize.ShloMosaic.ValueIdx
open Idealize.ShloMosaic.SparseCore (S V T)
open Idealize.ShloMosaic.SparseCore.Cfg (HIx Pay ownBufs ownSems0 ownRefs ownCells mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

def call0 : Call := ⟨Memref.whole main_v5_scv, Memref.isWhole_whole _, Memref.whole main_v4_scv, Memref.isWhole_whole _, Memref.whole main_v6_scv,
  Memref.isWhole_whole _, Memref.whole cc1_scratch0, Memref.isWhole_whole _, Memref.whole cc1_scratch1, Memref.isWhole_whole _, Memref.whole cc1_scratch2,
  Memref.isWhole_whole _, Memref.whole cc1_scratch3, Memref.isWhole_whole _, cc1_scratch4, cc1_scratch5, cc1_scratch6, cc1_scratch7, cc1_scratch8⟩
def call1 : Call := ⟨Memref.whole main_v7_scv, Memref.isWhole_whole _, Memref.whole main_v4_scv, Memref.isWhole_whole _, Memref.whole main_v8_scv,
  Memref.isWhole_whole _, Memref.whole cc2_scratch0, Memref.isWhole_whole _, Memref.whole cc2_scratch1, Memref.isWhole_whole _, Memref.whole cc2_scratch2,
  Memref.isWhole_whole _, Memref.whole cc2_scratch3, Memref.isWhole_whole _, cc2_scratch4, cc2_scratch5, cc2_scratch6, cc2_scratch7, cc2_scratch8⟩
def call2 : Call := ⟨Memref.whole main_v9_scv, Memref.isWhole_whole _, Memref.whole main_v4_scv, Memref.isWhole_whole _, Memref.whole main_v10_scv,
  Memref.isWhole_whole _, Memref.whole cc3_scratch0, Memref.isWhole_whole _, Memref.whole cc3_scratch1, Memref.isWhole_whole _, Memref.whole cc3_scratch2,
  Memref.isWhole_whole _, Memref.whole cc3_scratch3, Memref.isWhole_whole _, cc3_scratch4, cc3_scratch5, cc3_scratch6, cc3_scratch7, cc3_scratch8⟩
def call3 : Call := ⟨Memref.whole main_v11_scv, Memref.isWhole_whole _, Memref.whole main_v4_scv, Memref.isWhole_whole _, Memref.whole main_v12_scv,
  Memref.isWhole_whole _, Memref.whole cc4_scratch0, Memref.isWhole_whole _, Memref.whole cc4_scratch1, Memref.isWhole_whole _, Memref.whole cc4_scratch2,
  Memref.isWhole_whole _, Memref.whole cc4_scratch3, Memref.isWhole_whole _, cc4_scratch4, cc4_scratch5, cc4_scratch6, cc4_scratch7, cc4_scratch8⟩

/-- The four calls' arrays. -/
def calls : Fin 4 → Call
  | 0 => call0
  | 1 => call1
  | 2 => call2
  | 3 => call3

/-- Contents of a call's index array, -/
def cx (q : Fin 4) (f : S204800.Idx → BitVec 32) : (calls q).a2.view.ty.Contents (Elt F) :=
  match q with
  | 0 => f
  | 1 => f
  | 2 => f
  | 3 => f
/-- of its table, -/
def ct (q : Fin 4) (f : S1950x128.Idx → F .f32) : (calls q).a3.view.ty.Contents (Elt F) :=
  match q with
  | 0 => f
  | 1 => f
  | 2 => f
  | 3 => f
/-- of its output; -/
def co (q : Fin 4) (f : S204800x128.Idx → F .f32) : (calls q).a4.view.ty.Contents (Elt F) :=
  match q with
  | 0 => f
  | 1 => f
  | 2 => f
  | 3 => f
/-- and each array read whole is its contents. -/
theorem read_cx (q : Fin 4) (f : S204800.Idx → BitVec 32) (j : S204800.Idx) : (calls q).a2.view.read (Elt F) (cx q f) j = f j :=
  match q with
  | 0 => rfl
  | 1 => rfl
  | 2 => rfl
  | 3 => rfl
theorem read_ct (q : Fin 4) (f : S1950x128.Idx → F .f32) (j : S1950x128.Idx) : (calls q).a3.view.read (Elt F) (ct q f) j = f j :=
  match q with
  | 0 => rfl
  | 1 => rfl
  | 2 => rfl
  | 3 => rfl
theorem read_co (q : Fin 4) (f : S204800x128.Idx → F .f32) (j : S204800x128.Idx) : (calls q).a4.view.read (Elt F) (co q f) j = f j :=
  match q with
  | 0 => rfl
  | 1 => rfl
  | 2 => rfl
  | 3 => rfl

/-- What the calls find: on each device, each call's words, the table, and each call's output. -/
structure Vals (F : FTy → Type) where
  x : Dev nD → Fin 4 → S204800.Idx → BitVec 32
  t : Dev nD → S1950x128.Idx → F .f32
  o : Dev nD → Fin 4 → S204800x128.Idx → F .f32

namespace Vals
variable (v : Vals F)

/-- The words and the table by numbers, -/
def X (d : Dev nD) (q : Fin 4) (r : ℕ) : BitVec 32 := if h : r < 204800 then v.x d q (ix1 ⟨r, h⟩) else 0#32
def Tb (d : Dev nD) (r c : ℕ) : F .f32 := if h : r < 1950 ∧ c < 128 then v.t d (ix2 ⟨r, h.1⟩ ⟨c, h.2⟩) else v.t d (ix2 0 0)
/-- and what the calls leave. -/
def g (d : Dev nD) (q : Fin 4) : S204800x128.Idx → F .f32 := fun i => outV (v.X d q) (v.Tb d) (i 0).val (i 1).val

/-- Every word names a row of the weights. -/
def Ok : Prop := ∀ d q j, (v.x d q j).toNat < 39

end Vals

variable (v : Vals F)

/-- What tile `(c, s)` of call `q` holds of the call's arrays, the output at `o`. -/
def tileRes (q : Fin 4) (d : Dev nD) (c : Fin 2) (s : Fin 16) (o : S204800x128.Idx → F .f32) : sProp 𝕄 :=
  TileAt ((calls q).tl d c s) (tq c s) (cx q (v.x d q)) (ct q (v.t d)) (co q o)

theorem TileAt_storable (w : Tl) (q : PosShare TreeShare) (fx : w.a2.view.ty.Contents (Elt F)) (tb : w.a3.view.ty.Contents (Elt F))
    (g : w.a4.view.ty.Contents (Elt F)) : BI.Storable (upEmb : UEmb _ 𝕄) (TileAt w q fx tb g) := by unfold TileAt; infer_instance

instance tileRes_storable (q : Fin 4) (d : Dev nD) (c : Fin 2) (s : Fin 16) (o : S204800x128.Idx → F .f32) :
    BI.Storable (upEmb : UEmb _ 𝕄) (tileRes v q d c s o) :=
  TileAt_storable _ _ _ _ _

theorem nCore_eq (q : Fin 4) : (K (F := F)).nCore q = 2 := by revert q; exact fun | 0 => rfl | 1 => rfl | 2 => rfl | 3 => rfl
theorem nSub_eq (q : Fin 4) : (K (F := F)).nSub q = 16 := by revert q; exact fun | 0 => rfl | 1 => rfl | 2 => rfl | 3 => rfl

/-- Each call hands a SparseCore what its tiles hold, and gets it back with the output written. -/
def P : (K (F := F)).Pay (nD := nD) (Val := Elt F) (Name := ℕ) (U := UU) where
  st := fun q d c => bigSep Finset.univ fun s : Fin 16 => tileRes v q d (Fin.cast (nCore_eq q) c) s (v.o d q)
  dn := fun q d c => bigSep Finset.univ fun s : Fin 16 => tileRes v q d (Fin.cast (nCore_eq q) c) s (v.g d q)
  go := fun q d c i => tileRes v q d (Fin.cast (nCore_eq q) c) (Fin.cast (nSub_eq q) i) (v.o d q)
  td := fun q d c i => tileRes v q d (Fin.cast (nCore_eq q) c) (Fin.cast (nSub_eq q) i) (v.g d q)
  x := fun _ _ => iprop(emp)

instance P_storable : (P v).IsStorable where
  st q d c := (inferInstance : BI.Storable (upEmb : UEmb _ 𝕄) (bigSep Finset.univ fun s : Fin 16 => tileRes v q d (Fin.cast (nCore_eq q) c) s (v.o d q)))
  dn q d c := (inferInstance : BI.Storable (upEmb : UEmb _ 𝕄) (bigSep Finset.univ fun s : Fin 16 => tileRes v q d (Fin.cast (nCore_eq q) c) s (v.g d q)))
  go q d c i := tileRes_storable v q d _ _ _
  td q d c i := tileRes_storable v q d _ _ _

/-! ## A tile's scratch, out of what its subcore owns -/

/-- Four buffers of a subcore's own are among what it owns: they are them and the rest. -/
theorem own_four (d : Dev nD) (c : Fin τ.nSC) (s : Fin τ.nSub) (b1 b2 b3 b4 : Ref sig .scVector)
    (h1 : ((Proc.scVector c s).devRef b1 : DevRef τ sig).owner = .proc (.scVector c s)) (h2 : ((Proc.scVector c s).devRef b2 : DevRef τ sig).owner = .proc (.scVector c s))
    (h3 : ((Proc.scVector c s).devRef b3 : DevRef τ sig).owner = .proc (.scVector c s)) (h4 : ((Proc.scVector c s).devRef b4 : DevRef τ sig).owner = .proc (.scVector c s))
    (n21 : b2 ≠ b1) (n31 : b3 ≠ b1) (n32 : b3 ≠ b2) (n41 : b4 ≠ b1) (n42 : b4 ≠ b2) (n43 : b4 ≠ b3) :
    (ownBufs (V d c s) : sProp 𝕄)
      = iprop((∃ f, (V d c s).loc b1 ↦{fullShare} f) ∗ (∃ f, (V d c s).loc b2 ↦{fullShare} f) ∗ (∃ f, (V d c s).loc b3 ↦{fullShare} f)
          ∗ (∃ f, (V d c s).loc b4 ↦{fullShare} f)
          ∗ bigSep (((((ownRefs (τ := τ) (.scVector c s)).erase ((Proc.scVector c s).devRef b1)).erase ((Proc.scVector c s).devRef b2)).erase
              ((Proc.scVector c s).devRef b3)).erase ((Proc.scVector c s).devRef b4)) fun b => iprop(∃ f, ((d, b) : Loc nD τ sig) ↦{fullShare} f)) := by
  have ne : ∀ {b b' : Ref sig .scVector}, b ≠ b' → (Proc.scVector c s : Proc τ).devRef b ≠ (Proc.scVector c s).devRef b' :=
    fun h e => h (Proc.devRef_injective _ e)
  have m1 := SparseCore.Cfg.mem_ownRefs_of_owner h1
  have m2 := SparseCore.Cfg.mem_ownRefs_of_owner h2
  have m3 := SparseCore.Cfg.mem_ownRefs_of_owner h3
  have m4 := SparseCore.Cfg.mem_ownRefs_of_owner h4
  unfold SparseCore.Cfg.ownBufs
  refine (SparseCore.bigSep_erase' m1).trans ?_
  rw [SparseCore.bigSep_erase' (Finset.mem_erase.mpr ⟨ne n21, m2⟩),
    SparseCore.bigSep_erase' (Finset.mem_erase.mpr ⟨ne n32, Finset.mem_erase.mpr ⟨ne n31, m3⟩⟩),
    SparseCore.bigSep_erase' (Finset.mem_erase.mpr ⟨ne n43, Finset.mem_erase.mpr ⟨ne n42, Finset.mem_erase.mpr ⟨ne n41, m4⟩⟩⟩)]

/-- Five scoped transfer semaphores of a subcore are among its own: they are them and the rest. -/
theorem own_five (d : Dev nD) (c : Fin τ.nSC) (s : Fin τ.nSub) (a1 a2 a3 a4 a5 : DmaSems sig S_)
    (h1 : (SemLoc.dma a1.sem : SemLoc sig).isScoped .scVector = true) (h2 : (SemLoc.dma a2.sem : SemLoc sig).isScoped .scVector = true)
    (h3 : (SemLoc.dma a3.sem : SemLoc sig).isScoped .scVector = true) (h4 : (SemLoc.dma a4.sem : SemLoc sig).isScoped .scVector = true)
    (h5 : (SemLoc.dma a5.sem : SemLoc sig).isScoped .scVector = true)
    (n21 : (SemLoc.dma a2.sem : SemLoc sig) ≠ .dma a1.sem) (n31 : (SemLoc.dma a3.sem : SemLoc sig) ≠ .dma a1.sem)
    (n32 : (SemLoc.dma a3.sem : SemLoc sig) ≠ .dma a2.sem) (n41 : (SemLoc.dma a4.sem : SemLoc sig) ≠ .dma a1.sem)
    (n42 : (SemLoc.dma a4.sem : SemLoc sig) ≠ .dma a2.sem) (n43 : (SemLoc.dma a4.sem : SemLoc sig) ≠ .dma a3.sem)
    (n51 : (SemLoc.dma a5.sem : SemLoc sig) ≠ .dma a1.sem) (n52 : (SemLoc.dma a5.sem : SemLoc sig) ≠ .dma a2.sem)
    (n53 : (SemLoc.dma a5.sem : SemLoc sig) ≠ .dma a3.sem) (n54 : (SemLoc.dma a5.sem : SemLoc sig) ≠ .dma a4.sem) :
    (ownSems0 (V d c s) : sProp 𝕄)
      = iprop(semVal (V d c s, .dma a1.sem) 0 ∗ semVal (V d c s, .dma a2.sem) 0 ∗ semVal (V d c s, .dma a3.sem) 0 ∗ semVal (V d c s, .dma a4.sem) 0
          ∗ semVal (V d c s, .dma a5.sem) 0
          ∗ bigSep ((((((ownCells (V d c s)).erase (V d c s, .dma a1.sem)).erase (V d c s, .dma a2.sem)).erase (V d c s, .dma a3.sem)).erase
              (V d c s, .dma a4.sem)).erase (V d c s, .dma a5.sem)) fun g => semVal g 0) := by
  have ne : ∀ {a b : SemLoc sig}, a ≠ b → ((V d c s, a) : GSem nD τ sig) ≠ (V d c s, b) := fun h e => h (Prod.mk.inj e).2
  have mm : ∀ {a : SemLoc sig}, a.isScoped .scVector = true → ((V d c s, a) : GSem nD τ sig) ∈ ownCells (V d c s) := fun h => mem_ownCells.mpr ⟨rfl, h⟩
  unfold SparseCore.Cfg.ownSems0
  rw [SparseCore.bigSep_erase' (mm h1), SparseCore.bigSep_erase' (Finset.mem_erase.mpr ⟨ne n21, mm h2⟩),
    SparseCore.bigSep_erase' (Finset.mem_erase.mpr ⟨ne n32, Finset.mem_erase.mpr ⟨ne n31, mm h3⟩⟩),
    SparseCore.bigSep_erase' (Finset.mem_erase.mpr ⟨ne n43, Finset.mem_erase.mpr ⟨ne n42, Finset.mem_erase.mpr ⟨ne n41, mm h4⟩⟩⟩),
    SparseCore.bigSep_erase' (Finset.mem_erase.mpr ⟨ne n54, Finset.mem_erase.mpr ⟨ne n53, Finset.mem_erase.mpr ⟨ne n52, Finset.mem_erase.mpr ⟨ne n51, mm h5⟩⟩⟩⟩)]

/-- Four buffers and five semaphores are taken out, and put back at any contents. -/
theorem take_nine {B S B1 B2 B3 B4 R S1 S2 S3 S4 S5 R' : sProp (MT nD τ sig (HIx 4) (Elt F) ℕ UU ℕ)}
    (hB : B = iprop(B1 ∗ B2 ∗ B3 ∗ B4 ∗ R)) (hS : S = iprop(S1 ∗ S2 ∗ S3 ∗ S4 ∗ S5 ∗ R')) :
    iprop(B ∗ S) ⊢ iprop((B1 ∗ B2 ∗ B3 ∗ B4 ∗ S1 ∗ S2 ∗ S3 ∗ S4 ∗ S5) ∗ ((B1 ∗ B2 ∗ B3 ∗ B4 ∗ S1 ∗ S2 ∗ S3 ∗ S4 ∗ S5) -∗ iprop(B ∗ S))) := by
  rw [hB, hS]
  iintro ⟨⟨H1, H2, H3, H4, HR⟩, J1, J2, J3, J4, J5, HR'⟩
  isplitr [HR HR']
  · isplitl [H1]; · iexact H1
    isplitl [H2]; · iexact H2
    isplitl [H3]; · iexact H3
    isplitl [H4]; · iexact H4
    isplitl [J1]; · iexact J1
    isplitl [J2]; · iexact J2
    isplitl [J3]; · iexact J3
    isplitl [J4]; · iexact J4
    iexact J5
  iintro ⟨H1, H2, H3, H4, J1, J2, J3, J4, J5⟩
  isplitl [H1 H2 H3 H4 HR]
  · isplitl [H1]; · iexact H1
    isplitl [H2]; · iexact H2
    isplitl [H3]; · iexact H3
    isplitl [H4]; · iexact H4
    iexact HR
  isplitl [J1]; · iexact J1
  isplitl [J2]; · iexact J2
  isplitl [J3]; · iexact J3
  isplitl [J4]; · iexact J4
  isplitl [J5]; · iexact J5
  iexact HR'

/-- A tile's scratch is among what its subcore owns. -/
theorem own_scratch (q : Fin 4) (d : Dev nD) (c : Fin 2) (s : Fin 16) :
    iprop(ownBufs ((calls q).tl d c s).th ∗ ownSems0 ((calls q).tl d c s).th)
      ⊢ (iprop(Scratch ((calls q).tl d c s) ∗ (Scratch ((calls q).tl d c s) -∗ iprop(ownBufs ((calls q).tl d c s).th ∗ ownSems0 ((calls q).tl d c s).th))) : sProp 𝕄) :=
  match q with
  | 0 => take_nine
      (own_four d _ _ cc1_scratch0 cc1_scratch1 cc1_scratch2 cc1_scratch3 rfl rfl rfl rfl (by decide) (by decide) (by decide) (by decide) (by decide) (by decide))
      (own_five d _ _ cc1_scratch4 cc1_scratch5 cc1_scratch6 cc1_scratch7 cc1_scratch8 (by decide) (by decide) (by decide) (by decide) (by decide)
        (by decide) (by decide) (by decide) (by decide) (by decide) (by decide) (by decide) (by decide) (by decide) (by decide))
  | 1 => take_nine
      (own_four d _ _ cc2_scratch0 cc2_scratch1 cc2_scratch2 cc2_scratch3 rfl rfl rfl rfl (by decide) (by decide) (by decide) (by decide) (by decide) (by decide))
      (own_five d _ _ cc2_scratch4 cc2_scratch5 cc2_scratch6 cc2_scratch7 cc2_scratch8 (by decide) (by decide) (by decide) (by decide) (by decide)
        (by decide) (by decide) (by decide) (by decide) (by decide) (by decide) (by decide) (by decide) (by decide) (by decide))
  | 2 => take_nine
      (own_four d _ _ cc3_scratch0 cc3_scratch1 cc3_scratch2 cc3_scratch3 rfl rfl rfl rfl (by decide) (by decide) (by decide) (by decide) (by decide) (by decide))
      (own_five d _ _ cc3_scratch4 cc3_scratch5 cc3_scratch6 cc3_scratch7 cc3_scratch8 (by decide) (by decide) (by decide) (by decide) (by decide)
        (by decide) (by decide) (by decide) (by decide) (by decide) (by decide) (by decide) (by decide) (by decide) (by decide))
  | 3 => take_nine
      (own_four d _ _ cc4_scratch0 cc4_scratch1 cc4_scratch2 cc4_scratch3 rfl rfl rfl rfl (by decide) (by decide) (by decide) (by decide) (by decide) (by decide))
      (own_five d _ _ cc4_scratch4 cc4_scratch5 cc4_scratch6 cc4_scratch7 cc4_scratch8 (by decide) (by decide) (by decide) (by decide) (by decide)
        (by decide) (by decide) (by decide) (by decide) (by decide) (by decide) (by decide) (by decide) (by decide) (by decide))

end Cert.Proof
-- ==== Proof.Tasks.lean ====
/-
  Each task meets its obligation, a SparseCore's operands split among its tiles, and a call's three arrays held whole are
  what its SparseCores are handed.
-/
module

public import proofs.«01_k».proof.Proof.Calls

@[expose] public section

noncomputable section

namespace Cert.Proof

open Cert.KernelIdeal Cert.KernelIdeal.Gen

open Idealize.ShloMosaic hiding ix1 ix2 ix3
open Idealize.ShloMosaic.ValueIdx
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

variable (v : Vals F)

/-- The body run for a tile. -/
abbrev runTl (w : Tl) : Prog (TpuEff nD τ sig (Elt F) Λ₀ w.th.2) PUnit :=
  cc1__sc_body w.i w.a2 w.h2 w.a3 w.h3 w.a4 w.h4 w.a5 w.h5 w.a6 w.h6 w.a7 w.h7 w.a8 w.h8 w.a9 w.a10 w.a11 w.a12 w.a13

/-- The task of tile `(c, s)` of call `q`: its pieces of the arrays, the output's as found, end with the output's written;
    what its subcore owns is given back. -/
theorem task (hv : v.Ok) (q : Fin 4) (d : Dev nD) (c : Fin 2) (s : Fin 16) (O : CellTallies nD τ sig (HIx 4)) (W : Waits sig (HIx 4))
    (hO : ∀ g, O g none = 0) :
    iprop(levAts (K (F := F)).L (K (F := F)).lev ∗ emp ∗ tileRes v q d c s (v.o d q)
        ∗ scopedBufs ((calls q).tl d c s).th ∗ scopedSems0 ((calls q).tl d c s).th ∗ owes ((calls q).tl d c s).th O W)
      ⊢ wp frame (wpE (defs₀ (F := F)) 𝒱₀ ((calls q).tl d c s).th none) Set.univ (runTl ((calls q).tl d c s))
          fun _ => iprop(tileRes v q d c s (v.g d q)
            ∗ scopedBufs ((calls q).tl d c s).th ∗ scopedSems0 ((calls q).tl d c s).th ∗ ∃ W', ⌜∀ p ∈ W', p ∈ W ∨ p.2 = none⌝ ∗ owes ((calls q).tl d c s).th O W') := by
  rw [(K (F := F)).scopedBufs_V facts, SparseCore.Cfg.scopedSems0_V (Val := Elt F)]
  have hb := body ((calls q).tl d c s) O W (tq c s) (fx := cx q (v.x d q)) (X := v.X d q) (tb := ct q (v.t d)) (T := v.Tb d)
    (g₀ := co q (v.o d q)) (g := co q (v.g d q))
    (fun j => by
      show (calls q).a2.view.read (Elt F) (cx q (v.x d q)) (ix1 j) = _
      rw [read_cx, Vals.X, dif_pos j.isLt])
    (fun r hr => by rw [Vals.X, dif_pos hr]; exact hv d q _)
    (fun r c => by
      show (calls q).a3.view.read (Elt F) (ct q (v.t d)) (ix2 r c) = _
      rw [read_ct, Vals.Tb, dif_pos ⟨r.isLt, c.isLt⟩])
    (fun r c => by
      show (calls q).a4.view.read (Elt F) (co q (v.g d q)) (ix2 r c) = _
      rw [read_co]; rfl)
  unfold tileRes
  iintro ⟨#Hlv, -, Hres, Hbufs, Hsems, HO⟩
  ihave Hmw := (show levAts (K (F := F)).L (K (F := F)).lev ⊢ Transfers.MayWaits ((calls q).tl d c s).th (default : HIx 4) O from
    (K (F := F)).mayWaits_none (thr := ((calls q).tl d c s).th) hO) $$ Hlv
  ihave Hown := (own_scratch (F := F) q d c s) $$ [Hbufs Hsems]
  · isplitl [Hbufs] <;> iassumption
  icases Hown with ⟨Hscr, Hback⟩
  iapply (wp_wand_r frame (wpE (defs₀ (F := F)) 𝒱₀ ((calls q).tl d c s).th none) Set.univ)
  isplitr [Hback]
  · iapply hb
    isplitl [Hmw]; · iexact Hmw
    isplitl [Hscr]; · iexact Hscr
    isplitl [Hres]; · iexact Hres
    iexact HO
  iintro %u ⟨Hscr, Hres, HO⟩
  isplitl [Hres]; · iexact Hres
  ihave H := Hback $$ Hscr
  icases H with ⟨Hbufs, Hsems⟩
  isplitl [Hbufs]; · iexact Hbufs
  isplitl [Hsems]; · iexact Hsems
  iexact HO

theorem obl_post {thr : Thread nD τ} {A B C : sProp (MT nD τ sig (HIx 4) (Elt F) ℕ UU ℕ)} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ SparseCore.Cfg.Blocks.blk q p.2⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body run on the subcore a task is dispatched to. -/
abbrev onSub (q : Fin 4) (d : Dev nD) (c : Fin τ.nSC) (s : Fin τ.nSub) : Prog (TpuEff nD τ sig (Elt F) Λ₀ (.scVector c s)) PUnit.{1} :=
  SparseCore.onTile hcore1 hsub1 (fun c s => runTl (F := F) ((calls q).tl d c s)) ⟨⟩ c s

theorem obl (hv : v.Ok) (q : Fin 4) (d : Dev nD) (c : Fin ((K (F := F)).nCore q)) (i : Fin ((K (F := F)).nSub q)) (O : CellTallies nD τ sig (HIx 4))
    (W : Waits sig (HIx 4)) (hO : ∀ g, O g none = 0) :
    iprop(levAts (K (F := F)).L (K (F := F)).lev ∗ emp ∗ tileRes v q d (Fin.cast (nCore_eq q) c) (Fin.cast (nSub_eq q) i) (v.o d q)
        ∗ scopedBufs (V d ((K (F := F)).core q c) ((K (F := F)).sub q i)) ∗ scopedSems0 (V d ((K (F := F)).core q c) ((K (F := F)).sub q i))
        ∗ owes (V d ((K (F := F)).core q c) ((K (F := F)).sub q i)) O W)
      ⊢ wp frame (wpE (D (F := F)) 𝒱 (V d ((K (F := F)).core q c) ((K (F := F)).sub q i)) (some v₀)) Set.univ
          (Pipeline.liftProg (onSub (F := F) q d ((K (F := F)).core q c) ((K (F := F)).sub q i)))
          fun _ => iprop(tileRes v q d (Fin.cast (nCore_eq q) c) (Fin.cast (nSub_eq q) i) (v.g d q)
            ∗ scopedBufs (V d ((K (F := F)).core q c) ((K (F := F)).sub q i)) ∗ scopedSems0 (V d ((K (F := F)).core q c) ((K (F := F)).sub q i))
            ∗ ∃ W', ⌜∀ p ∈ W', p ∈ W ∨ p.2 = none ∨ SparseCore.Cfg.Blocks.blk q p.2⌝ ∗ owes (V d ((K (F := F)).core q c) ((K (F := F)).sub q i)) O W') := by
  have hci : ((K (F := F)).core q c).val < grid1.bound 0 ∧ ((K (F := F)).sub q i).val < grid1.bound 1 :=
    ⟨lt_of_lt_of_eq c.isLt (nCore_eq (F := F) q), lt_of_lt_of_eq i.isLt (nSub_eq (F := F) q)⟩
  refine BI.Entails.trans ?_ (Pipeline.wp_liftProg (D (F := F)) (Pipeline.defs_kernel pcfgs defs₀) 𝒱₀ _ Set.univ none _ _)
  simp only [onSub, SparseCore.onTile, hci, and_self, ↓reduceDIte]
  exact (task v hv q d (Fin.cast (nCore_eq q) c) (Fin.cast (nSub_eq q) i) O W hO).trans (wp_mono frame _ _ fun _ => obl_post)

set_option maxRecDepth 65536 in
set_option maxHeartbeats 4000000 in
theorem tileObl (hv : v.Ok) (q : Fin 4) : (K (F := F)).TileObl (D (F := F)) 𝒱 (P v) v₀ q := by
  intro d c i O W hO _ _
  simp only [show (P v).ox = fun _ _ => 0 from rfl, add_zero]
  match q, c, i with
  | 0, c, i => exact obl v hv 0 d c i O W hO
  | 1, c, i => exact obl v hv 1 d c i O W hO
  | 2, c, i => exact obl v hv 2 d c i O W hO
  | 3, c, i => exact obl v hv 3 d c i O W hO

/-! ## The splits -/

theorem bigSep_cast {n k : ℕ} (h : n = k) (Φ : Fin k → sProp (MT nD τ sig (HIx 4) (Elt F) ℕ UU ℕ)) :
    (bigSep Finset.univ fun i : Fin n => Φ (Fin.cast h i)) = bigSep Finset.univ Φ := by
  subst h; rfl

theorem vecSplit (q : Fin 4) : (K (F := F)).VecSplit' (P v) q := by
  intro d c
  show (bigSep Finset.univ fun s : Fin 16 => tileRes v q d (Fin.cast (nCore_eq q) c) s (v.o d q))
    ⊢ |={Set.univ}=> iprop((bigSep Finset.univ fun i : Fin ((K (F := F)).nSub q) => tileRes v q d (Fin.cast (nCore_eq q) c) (Fin.cast (nSub_eq q) i) (v.o d q))
      ∗ ((bigSep Finset.univ fun i : Fin ((K (F := F)).nSub q) => tileRes v q d (Fin.cast (nCore_eq q) c) (Fin.cast (nSub_eq q) i) (v.g d q))
        -∗ bigSep Finset.univ fun s : Fin 16 => tileRes v q d (Fin.cast (nCore_eq q) c) s (v.g d q)))
  rw [bigSep_cast (nSub_eq q) fun i => tileRes v q d (Fin.cast (nCore_eq q) c) i (v.o d q),
    bigSep_cast (nSub_eq q) fun i => tileRes v q d (Fin.cast (nCore_eq q) c) i (v.g d q)]
  iintro H; imodintro
  isplitl [H]; · iexact H
  iintro H; iexact H

/-- Call `q`'s three arrays, held whole on the TensorCore. -/
def callRes (q : Fin 4) (d : Dev nD) (x : S204800.Idx → BitVec 32) (o : S204800x128.Idx → F .f32) (t : S1950x128.Idx → F .f32) : sProp 𝕄 :=
  match q with
  | 0 => iprop(((T d : Thread nD τ).loc main_v5 ↦{fullShare} x) ∗ ((T d : Thread nD τ).loc main_v6 ↦{fullShare} o) ∗ ((T d : Thread nD τ).loc main_v4 ↦{fullShare} t))
  | 1 => iprop(((T d : Thread nD τ).loc main_v7 ↦{fullShare} x) ∗ ((T d : Thread nD τ).loc main_v8 ↦{fullShare} o) ∗ ((T d : Thread nD τ).loc main_v4 ↦{fullShare} t))
  | 2 => iprop(((T d : Thread nD τ).loc main_v9 ↦{fullShare} x) ∗ ((T d : Thread nD τ).loc main_v10 ↦{fullShare} o) ∗ ((T d : Thread nD τ).loc main_v4 ↦{fullShare} t))
  | 3 => iprop(((T d : Thread nD τ).loc main_v11 ↦{fullShare} x) ∗ ((T d : Thread nD τ).loc main_v12 ↦{fullShare} o) ∗ ((T d : Thread nD τ).loc main_v4 ↦{fullShare} t))

/-- What the tiles hold, from the array pieces' being apart and covering. -/
theorem callRes_of (q : Fin 4) (d : Dev nD) (o : S204800x128.Idx → F .f32) {ℓx ℓt ℓo : Loc nD τ sig} {fx : Buf (Elt F) ℓx} {ft : Buf (Elt F) ℓt} {fo : Buf (Elt F) ℓo}
    {Ix : Fin 2 → Fin 16 → Fin 50 → Finset (Idx ℓx)} {Io : Fin 2 → Fin 16 → Fin 50 → Finset (Idx ℓo)} {It : Fin 2 → Fin 16 → Finset (Idx ℓt)}
    (h : (iprop((ℓx ↦{fullShare} fx) ∗ (ℓo ↦{fullShare} fo) ∗ (ℓt ↦{fullShare} ft)) : sProp 𝕄)
      = bigSep Finset.univ fun c => bigSep Finset.univ fun s =>
          iprop((bigSep Finset.univ fun n => ℓx ↦[Ix c s n]{fullShare} fx) ∗ (bigSep Finset.univ fun n => ℓo ↦[Io c s n]{fullShare} fo)
            ∗ ℓt ↦[It c s]{tq c s} ft))
    (h₀ : (iprop((ℓx ↦{fullShare} fx) ∗ (ℓo ↦{fullShare} fo) ∗ (ℓt ↦{fullShare} ft)) : sProp 𝕄) = callRes q d (v.x d q) o (v.t d))
    (h₁ : ∀ c s, (iprop((bigSep Finset.univ fun n => ℓx ↦[Ix c s n]{fullShare} fx) ∗ (bigSep Finset.univ fun n => ℓo ↦[Io c s n]{fullShare} fo)
            ∗ ℓt ↦[It c s]{tq c s} ft) : sProp 𝕄) = tileRes v q d c s o) :
    callRes q d (v.x d q) o (v.t d) = bigSep Finset.univ fun c => bigSep Finset.univ fun s => tileRes v q d c s o := by
  rw [← h₀, h]
  exact bigSep_congr fun c _ => bigSep_congr fun s _ => h₁ c s

/-- They are what the tiles hold. -/
theorem callRes_eq (q : Fin 4) (d : Dev nD) (o : S204800x128.Idx → F .f32) :
    callRes q d (v.x d q) o (v.t d) = bigSep Finset.univ fun c => bigSep Finset.univ fun s => tileRes v q d c s o := by
  match q with
  | 0 => exact callRes_of v 0 d o (deal_call (ℓx := (T d : Thread nD τ).loc main_v5) (ℓt := (T d : Thread nD τ).loc main_v4) (ℓo := (T d : Thread nD τ).loc main_v6)
      (fun c s n => ((call0.tl d c s).xW n.val n.isLt).view.set) (fun c s n => ((call0.tl d c s).oW n.val n.isLt).view.set) (fun c s => (tabS (call0.tl d c s)).view.set)
      (call0.set_T d) (call0.apart_X d) (call0.cover_X d) (call0.apart_O d) (call0.cover_O d) (v.x d 0) (v.t d) o) rfl (fun _ _ => rfl)
  | 1 => exact callRes_of v 1 d o (deal_call (ℓx := (T d : Thread nD τ).loc main_v7) (ℓt := (T d : Thread nD τ).loc main_v4) (ℓo := (T d : Thread nD τ).loc main_v8)
      (fun c s n => ((call1.tl d c s).xW n.val n.isLt).view.set) (fun c s n => ((call1.tl d c s).oW n.val n.isLt).view.set) (fun c s => (tabS (call1.tl d c s)).view.set)
      (call1.set_T d) (call1.apart_X d) (call1.cover_X d) (call1.apart_O d) (call1.cover_O d) (v.x d 1) (v.t d) o) rfl (fun _ _ => rfl)
  | 2 => exact callRes_of v 2 d o (deal_call (ℓx := (T d : Thread nD τ).loc main_v9) (ℓt := (T d : Thread nD τ).loc main_v4) (ℓo := (T d : Thread nD τ).loc main_v10)
      (fun c s n => ((call2.tl d c s).xW n.val n.isLt).view.set) (fun c s n => ((call2.tl d c s).oW n.val n.isLt).view.set) (fun c s => (tabS (call2.tl d c s)).view.set)
      (call2.set_T d) (call2.apart_X d) (call2.cover_X d) (call2.apart_O d) (call2.cover_O d) (v.x d 2) (v.t d) o) rfl (fun _ _ => rfl)
  | 3 => exact callRes_of v 3 d o (deal_call (ℓx := (T d : Thread nD τ).loc main_v11) (ℓt := (T d : Thread nD τ).loc main_v4) (ℓo := (T d : Thread nD τ).loc main_v12)
      (fun c s n => ((call3.tl d c s).xW n.val n.isLt).view.set) (fun c s n => ((call3.tl d c s).oW n.val n.isLt).view.set) (fun c s => (tabS (call3.tl d c s)).view.set)
      (call3.set_T d) (call3.apart_X d) (call3.cover_X d) (call3.apart_O d) (call3.cover_O d) (v.x d 3) (v.t d) o) rfl (fun _ _ => rfl)

/-- What call `q` is handed is its arrays as found, and what it brings back is them with the output written. -/
theorem st_eq (q : Fin 4) (d : Dev nD) : (bigSep Finset.univ fun c : Fin ((K (F := F)).nCore q) => (P v).st q d c) = callRes q d (v.x d q) (v.o d q) (v.t d) := by
  rw [callRes_eq]
  exact bigSep_cast (nCore_eq q) fun c => bigSep Finset.univ fun s => tileRes v q d c s (v.o d q)
theorem dn_eq (q : Fin 4) (d : Dev nD) : (bigSep Finset.univ fun c : Fin ((K (F := F)).nCore q) => (P v).dn q d c) = callRes q d (v.x d q) (v.g d q) (v.t d) := by
  rw [callRes_eq]
  exact bigSep_cast (nCore_eq q) fun c => bigSep Finset.univ fun s => tileRes v q d c s (v.g d q)

end Cert.Proof
-- ==== Proof.Line.lean ====
/-
  The TensorCore's line: the host operations between the calls as lists, the contents of its arrays after each, and the
  arrays a call takes out of them.
-/
module

public import proofs.«01_k».proof.Proof.Table
public import proofs.«01_k».proof.Proof.Tasks

@[expose] public section

noncomputable section

namespace Cert.Proof

open Cert.KernelIdeal Cert.KernelIdeal.Gen

open Idealize.ShloMosaic hiding ix1 ix2 ix3
open Idealize.ShloMosaic.ValueIdx
open Idealize.ShloMosaic.StableHlo (held after)
open Idealize.ShloMosaic.Pipeline (ucRefs)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

/-- The TensorCore's arrays. -/
abbrev uc : Finset (DevRef τ sig) := ucRefs τ sig

/-- The array a reference names. -/
abbrev dr (r : Ref sig .tc) : DevRef τ sig := Proc.devRef .tc r

/-- The contents of every array of a device. -/
abbrev Val (F : FTy → Type) : Type := Valuation τ sig (Elt F)

/-! ## The host operations -/

/-- Before the table call: the tokens flattened, and the positions. -/
abbrev opsA : List (HloOp τ sig (Elt F)) :=
  [StableHlo.reshape main_arg0 main_v0 (rfl : (.i32 : EltTy) = .i32) shapeCasts_S16384x50_S819200,
   StableHlo.reshape main_arg2 main_v1 (rfl : (.f32 : EltTy) = .f32) shapeCasts_S1x50x48_S50x48]

/-- After it: the table flattened and padded, and the first call's tokens. -/
abbrev opsB : List (HloOp τ sig (Elt F)) :=
  [StableHlo.reshape main_v2 main_v3 (rfl : (.f32 : EltTy) = .f32) shapeCasts_S39x50x48_S1950x48,
   StableHlo.nullary main_c (constantI S_ 32 0#32),
   StableHlo.unary main_c main_call0_v0 (sitofp .f32),
   StableHlo.binary main_v3 main_call0_v0 main_v4 (fun x v => pad S1950x128 ![0, 0] ![0, 80] ![0, 0] x v pads_S1950x48_S1950x128_000_0800 h_S_),
   StableHlo.unary main_v0 main_v5 ((extractStridedSlice S204800 ![0] · slices_S819200_S204800_0) : (⟨S819200, .i32⟩ : BufTy).Contents (Elt F) → (⟨S204800, .i32⟩ : BufTy).Contents (Elt F))]

/-- The second, third and fourth calls' tokens. -/
abbrev opsC : List (HloOp τ sig (Elt F)) :=
  [StableHlo.unary main_v0 main_v7 ((extractStridedSlice S204800 ![204800] · slices_S819200_S204800_204800) : (⟨S819200, .i32⟩ : BufTy).Contents (Elt F) → (⟨S204800, .i32⟩ : BufTy).Contents (Elt F))]
abbrev opsD : List (HloOp τ sig (Elt F)) :=
  [StableHlo.unary main_v0 main_v9 ((extractStridedSlice S204800 ![409600] · slices_S819200_S204800_409600) : (⟨S819200, .i32⟩ : BufTy).Contents (Elt F) → (⟨S204800, .i32⟩ : BufTy).Contents (Elt F))]
abbrev opsE : List (HloOp τ sig (Elt F)) :=
  [StableHlo.unary main_v0 main_v11 ((extractStridedSlice S204800 ![614400] · slices_S819200_S204800_614400) : (⟨S819200, .i32⟩ : BufTy).Contents (Elt F) → (⟨S204800, .i32⟩ : BufTy).Contents (Elt F))]

/-- The calls' outputs cut to the embedding's width and laid one after another. -/
abbrev opsZ : List (HloOp τ sig (Elt F)) :=
  [StableHlo.unary main_v6 main_v13 ((extractStridedSlice S204800x48 ![0, 0] · slices_S204800x128_S204800x48_0_0) : (⟨S204800x128, .f32⟩ : BufTy).Contents (Elt F) → (⟨S204800x48, .f32⟩ : BufTy).Contents (Elt F)),
   StableHlo.reshape main_v13 main_v14 (rfl : (.f32 : EltTy) = .f32) shapeCasts_S204800x48_S4096x50x48,
   StableHlo.unary main_v8 main_v15 ((extractStridedSlice S204800x48 ![0, 0] · slices_S204800x128_S204800x48_0_0) : (⟨S204800x128, .f32⟩ : BufTy).Contents (Elt F) → (⟨S204800x48, .f32⟩ : BufTy).Contents (Elt F)),
   StableHlo.reshape main_v15 main_v16 (rfl : (.f32 : EltTy) = .f32) shapeCasts_S204800x48_S4096x50x48,
   StableHlo.unary main_v10 main_v17 ((extractStridedSlice S204800x48 ![0, 0] · slices_S204800x128_S204800x48_0_0) : (⟨S204800x128, .f32⟩ : BufTy).Contents (Elt F) → (⟨S204800x48, .f32⟩ : BufTy).Contents (Elt F)),
   StableHlo.reshape main_v17 main_v18 (rfl : (.f32 : EltTy) = .f32) shapeCasts_S204800x48_S4096x50x48,
   StableHlo.unary main_v12 main_v19 ((extractStridedSlice S204800x48 ![0, 0] · slices_S204800x128_S204800x48_0_0) : (⟨S204800x128, .f32⟩ : BufTy).Contents (Elt F) → (⟨S204800x48, .f32⟩ : BufTy).Contents (Elt F)),
   StableHlo.reshape main_v19 main_v20 (rfl : (.f32 : EltTy) = .f32) shapeCasts_S204800x48_S4096x50x48,
   StableHlo.nary ![main_v14, main_v16, main_v18, main_v20] main_v21 (fun u => concatenate S16384x50x48 0 [⟨S4096x50x48, u 0⟩, ⟨S4096x50x48, u 1⟩, ⟨S4096x50x48, u 2⟩, ⟨S4096x50x48, u 3⟩] concatenates_S4096x50x48_S4096x50x48_S4096x50x48_S4096x50x48_S16384x50x48_d0)]

set_option maxRecDepth 16384 in
/-- The program is those lists with the calls between them. -/
theorem main_eq (d : Dev nD) : main (F := F) d
    = (StableHlo.seq opsA >>= fun _ => Prog.lift (.customCall (SparseCore.inner (Pipeline.entry 0)) ()) >>= fun _ =>
        StableHlo.seq opsB >>= fun _ => sc.run d 0 >>= fun _ => StableHlo.seq opsC >>= fun _ => sc.run d 1 >>= fun _ =>
        StableHlo.seq opsD >>= fun _ => sc.run d 2 >>= fun _ => StableHlo.seq opsE >>= fun _ => sc.run d 3 >>= fun _ =>
        StableHlo.seq opsZ >>= fun _ => pure ⟨⟩) := by
  simp only [main, fn_pad.body, StableHlo.seq, bind_assoc, pure_bind]
  rfl

theorem sub_uc {ops : List (HloOp τ sig (Elt F))} (h : ops.Forall fun op => op.bufs ⊆ StableHlo.tcRefs τ sig) : ∀ op ∈ ops, op.bufs ⊆ uc :=
  fun op hop => Pipeline.sub_ucRefs op ((List.forall_iff_forall_mem.mp h) op hop)
theorem fresh_none {ops : List (HloOp τ sig (Elt F))} (h : ops.map HloOp.fresh = ops.map fun _ => (∅ : Finset (DevRef τ sig))) : ∀ op ∈ ops, op.fresh = ∅ :=
  List.forall_iff_forall_mem.mp (StableHlo.forall_fresh_of_map h)

theorem subA : ∀ op ∈ opsA (F := F), op.bufs ⊆ uc := sub_uc (by simp [List.Forall])
theorem subB : ∀ op ∈ opsB (F := F), op.bufs ⊆ uc := sub_uc (by simp [List.Forall])
theorem subC : ∀ op ∈ opsC (F := F), op.bufs ⊆ uc := sub_uc (by simp [List.Forall])
theorem subD : ∀ op ∈ opsD (F := F), op.bufs ⊆ uc := sub_uc (by simp [List.Forall])
theorem subE : ∀ op ∈ opsE (F := F), op.bufs ⊆ uc := sub_uc (by simp [List.Forall])
theorem subZ : ∀ op ∈ opsZ (F := F), op.bufs ⊆ uc := sub_uc (by simp [List.Forall])

/-! ## The arrays a call takes -/

/-- Three of the arrays taken out of all of them, and all of them back when the second has been rewritten. -/
theorem take_three (d : Dev nD) (x o t : Ref sig .tc) (hx : (dr x : DevRef τ sig) ∈ uc) (ho : (dr o : DevRef τ sig) ∈ uc)
    (ht : (dr t : DevRef τ sig) ∈ uc) (hxo : x ≠ o) (hxt : x ≠ t) (hot : o ≠ t) (W : Val F)
    (g : (dr o : DevRef τ sig).ty.Contents (Elt F)) :
    (held (T d) uc W : sProp 𝕄)
      ⊢ iprop((((T d : Thread nD τ).loc x ↦{fullShare} W (dr x)) ∗ ((T d : Thread nD τ).loc o ↦{fullShare} W (dr o)) ∗ ((T d : Thread nD τ).loc t ↦{fullShare} W (dr t)))
        ∗ (iprop(((T d : Thread nD τ).loc x ↦{fullShare} W (dr x)) ∗ ((T d : Thread nD τ).loc o ↦{fullShare} g) ∗ ((T d : Thread nD τ).loc t ↦{fullShare} W (dr t)))
          -∗ held (T d) uc (Function.update W (dr o) g))) := by
  have hsub : ({dr x, dr o, dr t} : Finset (DevRef τ sig)) ⊆ uc :=
    Finset.insert_subset hx (Finset.insert_subset ho (Finset.singleton_subset_iff.mpr ht))
  have hxo' : (dr x : DevRef τ sig) ≠ dr o := StableHlo.devRef_ne_of_ne hxo
  have hxt' : (dr x : DevRef τ sig) ≠ dr t := StableHlo.devRef_ne_of_ne hxt
  have hot' : (dr o : DevRef τ sig) ≠ dr t := StableHlo.devRef_ne_of_ne hot
  have h3 : ∀ W' : Val F, (held (T d) {dr x, dr o, dr t} W' : sProp 𝕄)
      = iprop(((T d : Thread nD τ).loc x ↦{fullShare} W' (dr x)) ∗ ((T d : Thread nD τ).loc o ↦{fullShare} W' (dr o)) ∗ ((T d : Thread nD τ).loc t ↦{fullShare} W' (dr t))) := by
    intro W'
    unfold held
    rw [SparseCore.bigSep_insert' (by simp only [Finset.mem_insert, Finset.mem_singleton, not_or]; exact ⟨hxo', hxt'⟩),
      SparseCore.bigSep_insert' (by simp only [Finset.mem_singleton]; exact hot'), bigSep_singleton]
  rw [StableHlo.held_sub_split (T d) hsub W, StableHlo.held_sub_split (T d) hsub (Function.update W (dr o) g), h3, h3,
    Function.update_of_ne hxo', Function.update_of_ne hot'.symm, Function.update_self,
    StableHlo.held_congr (T d) (S := uc \ {dr x, dr o, dr t}) (V := Function.update W (dr o) g) (V' := W)
      fun b hb => Function.update_of_ne (fun e => (Finset.mem_sdiff.mp hb).2 (by rw [e]; simp)) _ _]
  iintro ⟨H3, Hr⟩
  isplitl [H3]; · iexact H3
  iintro H3
  isplitl [H3]; · iexact H3
  iexact Hr

variable (v : Vals F)

/-- Call `q`, its tokens in `x`, its output `o`: run from all the arrays, it rewrites the output alone. -/
theorem call_step (κ : GSem nD τ sig → ℕ) (d : Dev nD) (q : Fin 4) (x o : Ref sig .tc) (hx : (dr x : DevRef τ sig) ∈ uc)
    (ho : (dr o : DevRef τ sig) ∈ uc) (hxo : x ≠ o) (hxt : x ≠ main_v4) (hot : o ≠ main_v4) (W : Val F)
    (g : (dr o : DevRef τ sig).ty.Contents (Elt F))
    (hst : (iprop(((T d : Thread nD τ).loc x ↦{fullShare} W (dr x)) ∗ ((T d : Thread nD τ).loc o ↦{fullShare} W (dr o)) ∗ ((T d : Thread nD τ).loc main_v4 ↦{fullShare} W (dr main_v4))) : sProp 𝕄)
      = callRes q d (v.x d q) (v.o d q) (v.t d))
    (hdn : (iprop(((T d : Thread nD τ).loc x ↦{fullShare} W (dr x)) ∗ ((T d : Thread nD τ).loc o ↦{fullShare} g) ∗ ((T d : Thread nD τ).loc main_v4 ↦{fullShare} W (dr main_v4))) : sProp 𝕄)
      = callRes q d (v.x d q) (v.g d q) (v.t d))
    {Q : PUnit → sProp (MT nD τ sig (HIx 4) (Elt F) ℕ UU ℕ)} :
    iprop((K (F := F)).ctx EH (P v) κ ∗ (K (F := F)).tcSt EH d q.val ∗ held (T d) uc W
        ∗ (iprop((K (F := F)).tcSt EH d (q.val + 1) ∗ held (T d) uc (Function.update W (dr o) g)) -∗ Q ⟨⟩))
      ⊢ wp frame (wpE ((K (F := F)).defs (D (F := F))) 𝒱 (T d) none) Set.univ (sc.run d q) Q := by
  iintro ⟨#Hctx, Hst, Hh, Hk⟩
  ihave H := (take_three d x o main_v4 hx ho (by decide) hxo hxt hot W g) $$ Hh
  icases H with ⟨H3, Hback⟩
  ihave H3 := (Entails.of_eq (hst.trans (st_eq v q d).symm)) $$ H3
  iapply ((K (F := F)).wp_run (D (F := F)) 𝒱 (EH := EH) (P := P v) κ d q)
  isplitr; · iexact Hctx
  isplitl [Hst]; · iexact Hst
  isplitl [H3]; · iexact H3
  iintro ⟨Hst, Hdn⟩
  ihave Hdn := (Entails.of_eq ((dn_eq v q d).trans hdn.symm)) $$ Hdn
  iapply Hk
  isplitl [Hst]; · iexact Hst
  iapply Hback; iexact Hdn

end Cert.Proof
-- ==== Proof.Contents.lean ====
/-
  The contents of the TensorCore's arrays along the program, from the launch memory to the result.
-/
module

public import proofs.«01_k».proof.Proof.Line

@[expose] public section

noncomputable section

namespace Cert.Proof

open Cert.KernelIdeal Cert.KernelIdeal.Gen

open Idealize.ShloMosaic hiding ix1 ix2 ix3
open Idealize.ShloMosaic.ValueIdx
open Idealize.ShloMosaic.StableHlo
open Idealize.ShloMosaic.SparseCore (S V T)

variable {F : FTy → Type} [FloatOps F]

/-! ## What the program computes, from the argument arrays -/

section Values

variable (x : S16384x50.Idx → BitVec 32) (w : S39x48.Idx → F .f32) (pe : S1x50x48.Idx → F .f32)

/-- The tokens in one row. -/
def flatX : S819200.Idx → BitVec 32 := shapeCast S819200 x shapeCasts_S16384x50_S819200

/-- Call `q`'s tokens. -/
def toksOf (q : Fin 4) : S204800.Idx → BitVec 32 :=
  match q with
  | 0 => extractStridedSlice S204800 ![0] (flatX x) slices_S819200_S204800_0
  | 1 => extractStridedSlice S204800 ![204800] (flatX x) slices_S819200_S204800_204800
  | 2 => extractStridedSlice S204800 ![409600] (flatX x) slices_S819200_S204800_409600
  | 3 => extractStridedSlice S204800 ![614400] (flatX x) slices_S819200_S204800_614400

/-- Every token's embedding at every position, in rows, padded to the stream's width. -/
def rowsOf : S1950x128.Idx → F .f32 :=
  pad S1950x128 ![0, 0] ![0, 80] ![0, 0]
    (shapeCast S1950x48 (k0_pay1 w (shapeCast S50x48 pe shapeCasts_S1x50x48_S50x48)) shapeCasts_S39x50x48_S1950x48)
    (sitofp (F := F) .f32 (constantI S_ 32 0#32)) pads_S1950x48_S1950x128_000_0800 h_S_

/-- The result, from the calls' outputs. -/
def joined (g : Fin 4 → S204800x128.Idx → F .f32) : S16384x50x48.Idx → F .f32 :=
  concatenate S16384x50x48 0
    [⟨S4096x50x48, shapeCast S4096x50x48 (extractStridedSlice S204800x48 ![0, 0] (g 0) slices_S204800x128_S204800x48_0_0) shapeCasts_S204800x48_S4096x50x48⟩,
     ⟨S4096x50x48, shapeCast S4096x50x48 (extractStridedSlice S204800x48 ![0, 0] (g 1) slices_S204800x128_S204800x48_0_0) shapeCasts_S204800x48_S4096x50x48⟩,
     ⟨S4096x50x48, shapeCast S4096x50x48 (extractStridedSlice S204800x48 ![0, 0] (g 2) slices_S204800x128_S204800x48_0_0) shapeCasts_S204800x48_S4096x50x48⟩,
     ⟨S4096x50x48, shapeCast S4096x50x48 (extractStridedSlice S204800x48 ![0, 0] (g 3) slices_S204800x128_S204800x48_0_0) shapeCasts_S204800x48_S4096x50x48⟩]
    concatenates_S4096x50x48_S4096x50x48_S4096x50x48_S4096x50x48_S16384x50x48_d0

end Values

variable (m : (ℓ : Loc nD τ sig) → Buf (Elt F) ℓ)

abbrev argX (d : Dev nD) : S16384x50.Idx → BitVec 32 := m ((T d : Thread nD τ).loc main_arg0)
abbrev argW (d : Dev nD) : S39x48.Idx → F .f32 := m ((T d : Thread nD τ).loc main_arg1)
abbrev argP (d : Dev nD) : S1x50x48.Idx → F .f32 := m ((T d : Thread nD τ).loc main_arg2)

/-- The calls' arrays: tokens and table as computed, outputs as the launch memory has them. -/
def vals : Vals F where
  x d q := toksOf (argX m d) q
  t d := rowsOf (argW m d) (argP m d)
  o d q := match q with
    | 0 => m ((T d : Thread nD τ).loc main_v6)
    | 1 => m ((T d : Thread nD τ).loc main_v8)
    | 2 => m ((T d : Thread nD τ).loc main_v10)
    | 3 => m ((T d : Thread nD τ).loc main_v12)

/-! ## The contents of all the arrays, step by step -/

def W0 (d : Dev nD) : Val F := fun b => m (d, b)
def W1 (d : Dev nD) : Val F := after opsA (W0 m d)
abbrev B1 : Bufs F := fun c b => W1 m c (dr b)
def W2 (d : Dev nD) : Val F := Function.update (W1 m d) (dr main_v2) (tableOf (B1 m) d)
def W3 (d : Dev nD) : Val F := after opsB (W2 m d)
def W4 (d : Dev nD) : Val F := Function.update (W3 m d) (dr main_v6) ((vals m).g d 0)
def W5 (d : Dev nD) : Val F := after opsC (W4 m d)
def W6 (d : Dev nD) : Val F := Function.update (W5 m d) (dr main_v8) ((vals m).g d 1)
def W7 (d : Dev nD) : Val F := after opsD (W6 m d)
def W8 (d : Dev nD) : Val F := Function.update (W7 m d) (dr main_v10) ((vals m).g d 2)
def W9 (d : Dev nD) : Val F := after opsE (W8 m d)
def W10 (d : Dev nD) : Val F := Function.update (W9 m d) (dr main_v12) ((vals m).g d 3)
def W11 (d : Dev nD) : Val F := after opsZ (W10 m d)

/-- A rewritten array leaves the others. -/
theorem up_ne (W : Val F) {r o : Ref sig .tc} (g : (dr o).ty.Contents (Elt F)) (h : r ≠ o) : Function.update W (dr o) g (dr r) = W (dr r) :=
  Function.update_of_ne (devRef_ne_of_ne h) _ _

theorem W1_ne (d : Dev nD) {r : Ref sig .tc} (h : r ∉ [main_v0, main_v1]) : W1 m d (dr r) = m (d, dr r) :=
  after_of_writes_sub opsA (W0 m d) (W := [main_v0, main_v1]) (forall_writes_sub_of_map rfl) h
theorem W2_ne (d : Dev nD) {r : Ref sig .tc} (h : r ∉ [main_v0, main_v1]) (h2 : r ≠ main_v2) : W2 m d (dr r) = m (d, dr r) :=
  (up_ne _ _ h2).trans (W1_ne m d h)
theorem W3_of (d : Dev nD) {r : Ref sig .tc} (h : r ∉ [main_v3, main_c, main_call0_v0, main_v4, main_v5]) : W3 m d (dr r) = W2 m d (dr r) :=
  after_of_writes_sub opsB (W2 m d) (W := [main_v3, main_c, main_call0_v0, main_v4, main_v5]) (forall_writes_sub_of_map rfl) h
theorem W5_of (d : Dev nD) {r : Ref sig .tc} (h : r ∉ [main_v7]) (ho : r ≠ main_v6) : W5 m d (dr r) = W3 m d (dr r) :=
  (after_of_writes_sub opsC (W4 m d) (W := [main_v7]) (forall_writes_sub_of_map rfl) h).trans (up_ne _ _ ho)
theorem W7_of (d : Dev nD) {r : Ref sig .tc} (h : r ∉ [main_v9]) (ho : r ≠ main_v8) : W7 m d (dr r) = W5 m d (dr r) :=
  (after_of_writes_sub opsD (W6 m d) (W := [main_v9]) (forall_writes_sub_of_map rfl) h).trans (up_ne _ _ ho)
theorem W9_of (d : Dev nD) {r : Ref sig .tc} (h : r ∉ [main_v11]) (ho : r ≠ main_v10) : W9 m d (dr r) = W7 m d (dr r) :=
  (after_of_writes_sub opsE (W8 m d) (W := [main_v11]) (forall_writes_sub_of_map rfl) h).trans (up_ne _ _ ho)
theorem W11_of (d : Dev nD) {r : Ref sig .tc} (h : r ∉ [main_v13, main_v14, main_v15, main_v16, main_v17, main_v18, main_v19, main_v20, main_v21])
    (ho : r ≠ main_v12) : W11 m d (dr r) = W9 m d (dr r) :=
  (after_of_writes_sub opsZ (W10 m d) (W := [main_v13, main_v14, main_v15, main_v16, main_v17, main_v18, main_v19, main_v20, main_v21])
    (forall_writes_sub_of_map rfl) h).trans (up_ne _ _ ho)

theorem W1_v0 (d : Dev nD) : W1 m d (dr main_v0) = flatX (argX m d) := by
  unfold W1
  after_results
  rfl
theorem W1_v1 (d : Dev nD) : W1 m d (dr main_v1) = shapeCast S50x48 (argP m d) shapeCasts_S1x50x48_S50x48 := by
  unfold W1
  after_results
  rfl
theorem W2_v2 (d : Dev nD) : W2 m d (dr main_v2) = k0_pay1 (argW m d) (shapeCast S50x48 (argP m d) shapeCasts_S1x50x48_S50x48) := by
  refine (Function.update_self _ _ _).trans ?_
  show k0_pay1 (W1 m d (dr main_arg1)) (W1 m d (dr main_v1)) = _
  rw [W1_v1, W1_ne m d (by decide)]
theorem W3_v4 (d : Dev nD) : W3 m d (dr main_v4) = (vals m).t d := by
  have h : W3 m d (dr main_v4) = pad S1950x128 ![0, 0] ![0, 80] ![0, 0] (shapeCast S1950x48 (W2 m d (dr main_v2)) shapeCasts_S39x50x48_S1950x48)
      (sitofp (F := F) .f32 (constantI S_ 32 0#32)) pads_S1950x48_S1950x128_000_0800 h_S_ := by
    unfold W3
    after_results
    rfl
  rw [h, W2_v2]
  rfl
theorem W3_v0 (d : Dev nD) : W3 m d (dr main_v0) = flatX (argX m d) :=
  (W3_of m d (by decide)).trans ((up_ne _ _ (by decide)).trans (W1_v0 m d))
theorem W3_v5 (d : Dev nD) : W3 m d (dr main_v5) = (vals m).x d 0 := by
  have h : W3 m d (dr main_v5) = extractStridedSlice S204800 ![0] (W2 m d (dr main_v0)) slices_S819200_S204800_0 := by
    unfold W3
    after_results
  rw [h, W2, up_ne _ _ (by decide), W1_v0]
  rfl
theorem W5_v7 (d : Dev nD) : W5 m d (dr main_v7) = (vals m).x d 1 := by
  have h : W5 m d (dr main_v7) = extractStridedSlice S204800 ![204800] (W4 m d (dr main_v0)) slices_S819200_S204800_204800 := by
    unfold W5
    after_results
  rw [h, W4, up_ne _ _ (by decide), W3_v0]
  rfl
theorem W7_v9 (d : Dev nD) : W7 m d (dr main_v9) = (vals m).x d 2 := by
  have h : W7 m d (dr main_v9) = extractStridedSlice S204800 ![409600] (W6 m d (dr main_v0)) slices_S819200_S204800_409600 := by
    unfold W7
    after_results
  rw [h, W6, up_ne _ _ (by decide), W5_of m d (by decide) (by decide), W3_v0]
  rfl
theorem W9_v11 (d : Dev nD) : W9 m d (dr main_v11) = (vals m).x d 3 := by
  have h : W9 m d (dr main_v11) = extractStridedSlice S204800 ![614400] (W8 m d (dr main_v0)) slices_S819200_S204800_614400 := by
    unfold W9
    after_results
  rw [h, W8, up_ne _ _ (by decide), W7_of m d (by decide) (by decide), W5_of m d (by decide) (by decide), W3_v0]
  rfl

theorem W3_v6 (d : Dev nD) : W3 m d (dr main_v6) = (vals m).o d 0 :=
  (W3_of m d (by decide)).trans (W2_ne m d (by decide) (by decide))
theorem W5_v8 (d : Dev nD) : W5 m d (dr main_v8) = (vals m).o d 1 :=
  (W5_of m d (by decide) (by decide)).trans ((W3_of m d (by decide)).trans (W2_ne m d (by decide) (by decide)))
theorem W7_v10 (d : Dev nD) : W7 m d (dr main_v10) = (vals m).o d 2 :=
  (W7_of m d (by decide) (by decide)).trans ((W5_of m d (by decide) (by decide)).trans ((W3_of m d (by decide)).trans (W2_ne m d (by decide) (by decide))))
theorem W9_v12 (d : Dev nD) : W9 m d (dr main_v12) = (vals m).o d 3 :=
  (W9_of m d (by decide) (by decide)).trans ((W7_of m d (by decide) (by decide)).trans
    ((W5_of m d (by decide) (by decide)).trans ((W3_of m d (by decide)).trans (W2_ne m d (by decide) (by decide)))))
theorem W5_v4 (d : Dev nD) : W5 m d (dr main_v4) = (vals m).t d := (W5_of m d (by decide) (by decide)).trans (W3_v4 m d)
theorem W7_v4 (d : Dev nD) : W7 m d (dr main_v4) = (vals m).t d := (W7_of m d (by decide) (by decide)).trans (W5_v4 m d)
theorem W9_v4 (d : Dev nD) : W9 m d (dr main_v4) = (vals m).t d := (W9_of m d (by decide) (by decide)).trans (W7_v4 m d)

theorem W10_v12 (d : Dev nD) : W10 m d (dr main_v12) = (vals m).g d 3 := Function.update_self _ _ _
theorem W10_v10 (d : Dev nD) : W10 m d (dr main_v10) = (vals m).g d 2 :=
  (up_ne _ _ (by decide)).trans ((after_of_writes_sub opsE (W8 m d) (W := [main_v11]) (forall_writes_sub_of_map rfl) (by decide)).trans (Function.update_self _ _ _))
theorem W10_v8 (d : Dev nD) : W10 m d (dr main_v8) = (vals m).g d 1 :=
  (up_ne _ _ (by decide)).trans ((W9_of m d (by decide) (by decide)).trans
    ((after_of_writes_sub opsD (W6 m d) (W := [main_v9]) (forall_writes_sub_of_map rfl) (by decide)).trans (Function.update_self _ _ _)))
theorem W10_v6 (d : Dev nD) : W10 m d (dr main_v6) = (vals m).g d 0 :=
  (up_ne _ _ (by decide)).trans ((W9_of m d (by decide) (by decide)).trans ((W7_of m d (by decide) (by decide)).trans
    ((after_of_writes_sub opsC (W4 m d) (W := [main_v7]) (forall_writes_sub_of_map rfl) (by decide)).trans (Function.update_self _ _ _))))

/-- The result array ends at the calls' outputs joined. -/
theorem W11_v21 (d : Dev nD) : W11 m d (dr main_v21) = joined ((vals m).g d) := by
  have h : W11 m d (dr main_v21) = joined (fun q => match q with
      | 0 => W10 m d (dr main_v6) | 1 => W10 m d (dr main_v8) | 2 => W10 m d (dr main_v10) | 3 => W10 m d (dr main_v12)) := by
    unfold W11
    after_results
    rfl
  rw [h]
  congr 1
  funext q
  match q with
  | 0 => exact W10_v6 m d
  | 1 => exact W10_v8 m d
  | 2 => exact W10_v10 m d
  | 3 => exact W10_v12 m d

/-- An array no step of the program writes ends as the launch memory has it. -/
theorem W11_arg (d : Dev nD) {r : Ref sig .tc} (h : r = main_arg0 ∨ r = main_arg1 ∨ r = main_arg2) : W11 m d (dr r) = m (d, dr r) := by
  rcases h with rfl | rfl | rfl <;>
  exact (W11_of m d (by decide) (by decide)).trans ((W9_of m d (by decide) (by decide)).trans ((W7_of m d (by decide) (by decide)).trans
    ((W5_of m d (by decide) (by decide)).trans ((W3_of m d (by decide)).trans (W2_ne m d (by decide) (by decide))))))

end Cert.Proof
-- ==== Proof.Run.lean ====
/-
  The whole run: @main on the TensorCore, from the launch to its result, and the launch theorem applied to it.
-/
module

public import proofs.«01_k».proof.Proof.Contents

@[expose] public section

noncomputable section

namespace Cert.Proof

open Cert.KernelIdeal Cert.KernelIdeal.Gen

open Idealize.ShloMosaic hiding ix1 ix2 ix3
open Idealize.ShloMosaic.ValueIdx
open Idealize.ShloMosaic.StableHlo (held after)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 4) (Elt F) ℕ UU ℕ

variable (m : (ℓ : Loc nD τ sig) → Buf (Elt F) ℓ) (ρ : Dev nD → PrngReg)

/-! ## The launch's ghost state -/

/-- The table call's pipeline. -/
abbrev pin (F : FTy → Type) [FloatOps F] := Pipeline.pin (pcfgs (F := F)) (adm (F := F))

/-- The handshakes' rounds, the table call's rounds, and the transfers' counters. -/
def u₀ : UU := (initOf (K (F := F)).hsCells (K (F := F)).hsToks,
  (initOf (Pipeline.cells (pin F) cellOf_inj) (Pipeline.launchToks (pin F) cellOf_inj), 1))

/-- What device `d`'s TensorCore is given for the table call. -/
abbrev G (d : Dev nD) : sProp 𝕄 := iprop(Pipeline.cellsGhost (pin F) EP 0 d ∗ Pipeline.toksInit (pin F) EP 0 d)

/-- The launch element pays for them. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 4 => (P (vals m)).x q thr) := by
  unfold u₀
  iintro Hu
  ihave H := (ownU_split (F := F) _ _) $$ Hu
  icases H with ⟨HH, HP⟩
  imod (Pipeline.fund_ghost (pin F) EP cellOf_inj) $$ HP with ⟨Hg, Ht⟩
  imodintro
  isplitl [HH]; · iexact HH
  isplitl [Hg Ht]
  · have e : (bigSep Finset.univ fun d : Dev nD => G (F := F) d)
        = iprop((bigSep Finset.univ fun c : Dev nD => bigSep Finset.univ fun p => Pipeline.cellsGhost (pin F) EP p c)
            ∗ bigSep Finset.univ fun c : Dev nD => bigSep Finset.univ fun p => (Pipeline.toksInit (pin F) EP p c : sProp 𝕄)) := by
      rw [bigSep_sep']
      congr 1
      · exact bigSep_congr fun c _ => (bigSep_univ_of_subsingleton (Φ := fun p => Pipeline.cellsGhost (pin F) EP p c) (0 : Fin 1)).symm
      · exact bigSep_congr fun c _ => (bigSep_univ_of_subsingleton (Φ := fun p => Pipeline.toksInit (pin F) EP p c) (0 : Fin 1)).symm
    rw [e]
    isplitl [Hg] <;> iassumption
  rw [show (bigSep Finset.univ fun thr : Thread nD τ => bigSep Finset.univ fun q : Fin 4 => (P (vals m)).x q thr) = (iprop(emp) : sProp 𝕄) from
    (bigSep_congr fun _ _ => bigSep_emp_const _).trans (bigSep_emp_const _)]
  iempintro

/-! ## @main -/

/-- What @main leaves the claims: the argument arrays as launched, and the result. -/
abbrev FIN (d : Dev nD) : sProp 𝕄 :=
  iprop(((T d : Thread nD τ).loc main_arg0 ↦{fullShare} m ((T d : Thread nD τ).loc main_arg0))
    ∗ ((T d : Thread nD τ).loc main_arg1 ↦{fullShare} m ((T d : Thread nD τ).loc main_arg1))
    ∗ ((T d : Thread nD τ).loc main_arg2 ↦{fullShare} m ((T d : Thread nD τ).loc main_arg2))
    ∗ (T d : Thread nD τ).loc main_v21 ↦{fullShare} joined ((vals m).g d))

/-- Those arrays out of all of them at the end. -/
theorem held_end (d : Dev nD) : (held (T d) uc (W11 m d) : sProp 𝕄) ⊢ FIN m d := by
  have hsub : ({dr main_arg0, dr main_arg1, dr main_arg2, dr main_v21} : Finset (DevRef τ sig)) ⊆ uc := by decide
  rw [StableHlo.held_sub_split (T d) hsub]
  refine sep_elim_left.trans (Entails.of_eq ?_)
  unfold held
  rw [SparseCore.bigSep_insert' (by decide), SparseCore.bigSep_insert' (by decide), SparseCore.bigSep_insert' (by decide), bigSep_singleton,
    W11_arg m d (.inl rfl), W11_arg m d (.inr (.inl rfl)), W11_arg m d (.inr (.inr rfl)), W11_v21]

set_option maxHeartbeats 1000000 in
/-- @main on device `d`'s TensorCore: the host operations, the table call and the four SparseCore calls, in order. -/
theorem hmain (κ : GSem nD τ sig → ℕ) (d : Dev nD) :
    iprop((K (F := F)).ctx EH (P (vals m)) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 4 ∗ FIN m d ∗ (K (F := F)).tcEnd d) := by
  unfold SparseCore.Cfg.tcRes SparseCore.Cfg.tcEnd
  rw [main_eq, show (unscopedBufs d (fun b => m ((T d : Thread nD τ).loc b)) : sProp 𝕄) = held (T d) uc (W0 m d) from
    Pipeline.unscopedBufs_held d (W0 m d)]
  iintro ⟨#Hctx, Hst, ⟨Hb, Hh, Hts, -⟩, ⟨Hg, Ht⟩⟩
  ihave #Hlv := ((K (F := F)).ctx_levAts (EH := EH) (P := P (vals m)) κ) $$ Hctx
  -- before the table call
  iapply (StableHlo.wp_seq 𝒱 none Set.univ d uc _ opsA subA (fresh_none rfl) (W0 m d)) $$ [Hb Hh]
  · isplitl [Hb]; · iexact Hb
    iexact Hh
  iintro ⟨Hb, Hh⟩
  rw [wp_bind]
  iapply (table_call (B1 m) (fun c b => W2 m c (dr b)) (fun c => Function.update_self _ _ _) (fun c b hb => up_ne _ _ hb) d)
  isplitr [Hb Hh Hst Hg Ht]
  rotate_left
  · isplitl [Hb]; · iexact Hb
    isplitl [Hh]
    · rw [show (unscopedBufs d (B1 m d) : sProp 𝕄) = held (T d) uc (W1 m d) from Pipeline.unscopedBufs_held d (W1 m d)]
      iexact Hh
    isplitl [Hst]; · iexact Hst
    isplitr; · iexact Hlv
    isplitl [Hg] <;> iassumption
  iintro ⟨Hb, Hh, Hst⟩
  ihave Hh := (show (unscopedBufs d (fun b => W2 m d (dr b)) : sProp 𝕄) ⊢ held (T d) uc (W2 m d) from Entails.of_eq (Pipeline.unscopedBufs_held d (W2 m d))) $$ Hh
  -- the table padded; the first call
  iapply (StableHlo.wp_seq 𝒱 none Set.univ d uc _ opsB subB (fresh_none rfl) (W2 m d)) $$ [Hb Hh]
  · isplitl [Hb]; · iexact Hb
    iexact Hh
  iintro ⟨Hb, Hh⟩
  rw [wp_bind]
  iapply (call_step (vals m) κ d 0 main_v5 main_v6 (by decide) (by decide) (by decide) (by decide) (by decide) (W3 m d) ((vals m).g d 0)
    (by rw [W3_v5, W3_v6, W3_v4]; rfl) (by rw [W3_v5, W3_v4]; rfl))
  isplitr; · iexact Hctx
  isplitl [Hst]; · iexact Hst
  isplitl [Hh]; · iexact Hh
  iintro ⟨Hst, Hh⟩
  -- the second
  iapply (StableHlo.wp_seq 𝒱 none Set.univ d uc _ opsC subC (fresh_none rfl) (W4 m d)) $$ [Hb Hh]
  · isplitl [Hb]; · iexact Hb
    iexact Hh
  iintro ⟨Hb, Hh⟩
  rw [wp_bind]
  iapply (call_step (vals m) κ d 1 main_v7 main_v8 (by decide) (by decide) (by decide) (by decide) (by decide) (W5 m d) ((vals m).g d 1)
    (by rw [W5_v7, W5_v8, W5_v4]; rfl) (by rw [W5_v7, W5_v4]; rfl))
  isplitr; · iexact Hctx
  isplitl [Hst]; · iexact Hst
  isplitl [Hh]; · iexact Hh
  iintro ⟨Hst, Hh⟩
  -- the third
  iapply (StableHlo.wp_seq 𝒱 none Set.univ d uc _ opsD subD (fresh_none rfl) (W6 m d)) $$ [Hb Hh]
  · isplitl [Hb]; · iexact Hb
    iexact Hh
  iintro ⟨Hb, Hh⟩
  rw [wp_bind]
  iapply (call_step (vals m) κ d 2 main_v9 main_v10 (by decide) (by decide) (by decide) (by decide) (by decide) (W7 m d) ((vals m).g d 2)
    (by rw [W7_v9, W7_v10, W7_v4]; rfl) (by rw [W7_v9, W7_v4]; rfl))
  isplitr; · iexact Hctx
  isplitl [Hst]; · iexact Hst
  isplitl [Hh]; · iexact Hh
  iintro ⟨Hst, Hh⟩
  -- the fourth
  iapply (StableHlo.wp_seq 𝒱 none Set.univ d uc _ opsE subE (fresh_none rfl) (W8 m d)) $$ [Hb Hh]
  · isplitl [Hb]; · iexact Hb
    iexact Hh
  iintro ⟨Hb, Hh⟩
  rw [wp_bind]
  iapply (call_step (vals m) κ d 3 main_v11 main_v12 (by decide) (by decide) (by decide) (by decide) (by decide) (W9 m d) ((vals m).g d 3)
    (by rw [W9_v11, W9_v12, W9_v4]; rfl) (by rw [W9_v11, W9_v4]; rfl))
  isplitr; · iexact Hctx
  isplitl [Hst]; · iexact Hst
  isplitl [Hh]; · iexact Hh
  iintro ⟨Hst, Hh⟩
  -- the outputs joined
  iapply (StableHlo.wp_seq 𝒱 none Set.univ d uc _ opsZ subZ (fresh_none rfl) (W10 m d)) $$ [Hb Hh]
  · isplitl [Hb]; · iexact Hb
    iexact Hh
  iintro ⟨Hb, Hh⟩
  rw [wp_pure]
  imodintro
  isplitl [Hst]; · iexact Hst
  isplitl [Hh]; · iapply (held_end m d); iexact Hh
  isplitl [Hb] <;> iassumption

/-! ## The run -/

/-- The argument arrays as launched, and the result: what the final memory says on device `d`. -/
def fq (d : Dev nD) (s' : Phys nD τ sig (Elt F)) : Prop :=
  (s'.mem.mem ((T d : Thread nD τ).loc main_arg0) = m ((T d : Thread nD τ).loc main_arg0)
    ∧ s'.mem.mem ((T d : Thread nD τ).loc main_arg1) = m ((T d : Thread nD τ).loc main_arg1)
    ∧ s'.mem.mem ((T d : Thread nD τ).loc main_arg2) = m ((T d : Thread nD τ).loc main_arg2))
  ∧ s'.mem.mem ((T d : Thread nD τ).loc main_v21) = joined ((vals m).g d)

/-- An array held whole holds what the memory has there. -/
theorem agree (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3⟩, HSI⟩
  ihave H := (agree s' _ _) $$ [HSI H0]
  · isplitl [HSI] <;> iassumption
  icases H with ⟨%h0, HSI⟩
  ihave H := (agree s' _ _) $$ [HSI H1]
  · isplitl [HSI] <;> iassumption
  icases H with ⟨%h1, HSI⟩
  ihave H := (agree s' _ _) $$ [HSI H2]
  · isplitl [HSI] <;> iassumption
  icases H with ⟨%h2, HSI⟩
  ihave H := (agree s' _ _) $$ [HSI H3]
  · isplitl [HSI] <;> iassumption
  icases H with ⟨%h3, HSI⟩
  ipureintro; exact ⟨⟨h0, h1, h2⟩, h3⟩

/-- From memory whose tokens are rows of the table, the program ends with its arguments unchanged, its result the calls'
    outputs joined, and every semaphore back at zero. -/
theorem run_main [∀ e, Nonempty (Elt F e)] (hv : (vals m).Ok) :
    θ_run (Cert.KernelIdeal.defs (F := F)) (Cert.KernelIdeal.threads (F := F)) ⟨m, fun _ => 0, ρ⟩
      (fun r => (∀ d : Dev nD, (r.2.mem ((T d : Thread nD τ).loc main_arg0) = m ((T d : Thread nD τ).loc main_arg0)
          ∧ r.2.mem ((T d : Thread nD τ).loc main_arg1) = m ((T d : Thread nD τ).loc main_arg1)
          ∧ r.2.mem ((T d : Thread nD τ).loc main_arg2) = m ((T d : Thread nD τ).loc main_arg2))
        ∧ r.2.mem ((T d : Thread nD τ).loc main_v21) = joined ((vals m).g d)) ∧ r.2.sem = fun _ => 0) :=
  SparseCore.Cfg.θ_run_sc_quiescent (K := K (F := F)) (D := D (F := F)) (𝒱 := 𝒱) (EH := EH) (P := P (vals m)) (A := ∅) facts v₀
    (fun q hq => match q with | 0 => nomatch hq | 1 => nomatch hq | 2 => nomatch hq | 3 => nomatch hq)
    (fun q _ => tileObl (vals m) hv q)
    (fun q _ => SparseCore.Cfg.VecSplit.of_plain (vecSplit (vals m) q))
    m ρ main (fun d => G (F := F) d) (FIN m) (u₀ (F := F)) (sep_elim_left.trans (hu₀ m)) (hmain m ρ) (fq m) (hfin m) _ (fun _ h hz => ⟨h, hz⟩)

end Cert.Proof
-- ==== Proof.Value.lean ====
/-
  The kernel's result read at an index: the row of the embedding that the token names, plus the position's row.
-/
module

public import proofs.«01_k».proof.Proof.Contents
public import Idealize.ShloMosaic.Lib.Pipeline.Value
public import Idealize.ShloMosaic.Lib.KernelVsHost

@[expose] public section

noncomputable section

namespace Cert.Proof

open Cert.KernelIdeal Cert.KernelIdeal.Gen

open Idealize.ShloMosaic hiding ix1 ix2 ix3
open Idealize.ShloMosaic.ValueIdx

variable {F : FTy → Type} [FloatOps F]

/-! ## Row-major positions of the shapes -/

section Reads

variable {α : Type}

/-- A table of rows in one row: place `n` is row `n / 50`, column `n % 50`. -/
theorem flat_read (x : S16384x50.Idx → α) (n : Nat) (h : n < 819200) :
    shapeCast S819200 x shapeCasts_S16384x50_S819200 (ix1 ⟨n, h⟩) = x (ix2 ⟨n / 50, by omega⟩ ⟨n % 50, by omega⟩) := by
  refine shapeCast_apply _ _ _ _ ?_
  refine (Shape.rowMajor_val_two _).trans (Eq.trans ?_ (Shape.rowMajor_val_one _).symm)
  show n / 50 * 50 + n % 50 = n
  omega

/-- A box of tokens by positions as rows: row `t * 50 + p` is token `t` at position `p`. -/
theorem box_read (x : S39x50x48.Idx → α) (t p c : Nat) (ht : t < 39) (hp : p < 50) (hc : c < 48) :
    shapeCast S1950x48 x shapeCasts_S39x50x48_S1950x48 (ix2 ⟨t * 50 + p, by omega⟩ ⟨c, hc⟩) = x (ix3 ⟨t, ht⟩ ⟨p, hp⟩ ⟨c, hc⟩) := by
  refine shapeCast_apply _ _ _ _ ?_
  refine (Shape.rowMajor_val_three _).trans (Eq.trans ?_ (Shape.rowMajor_val_two _).symm)
  rfl

/-- Rows as a box: place `(b, p)` is row `b * 50 + p`. -/
theorem unflat_read (x : S204800x48.Idx → α) (b p c : Nat) (hb : b < 4096) (hp : p < 50) (hc : c < 48) :
    shapeCast S4096x50x48 x shapeCasts_S204800x48_S4096x50x48 (ix3 ⟨b, hb⟩ ⟨p, hp⟩ ⟨c, hc⟩) = x (ix2 ⟨b * 50 + p, by omega⟩ ⟨c, hc⟩) := by
  refine shapeCast_apply _ _ _ _ ?_
  refine (Shape.rowMajor_val_two _).trans (Eq.trans ?_ (Shape.rowMajor_val_three _).symm)
  rfl

/-- The first columns of a row are the row's. -/
theorem cols_read (x : S204800x128.Idx → α) (r c : Nat) (hr : r < 204800) (hc : c < 48) :
    extractStridedSlice S204800x48 ![0, 0] x slices_S204800x128_S204800x48_0_0 (ix2 ⟨r, hr⟩ ⟨c, hc⟩) = x (ix2 ⟨r, hr⟩ ⟨c, by omega⟩) := by
  refine extractStridedSlice_apply _ _ _ _ _ fun a => ?_
  match a with
  | ⟨0, _⟩ => exact (Nat.zero_add _).symm
  | ⟨1, _⟩ => exact (Nat.zero_add _).symm

end Reads

section Values

variable (x : S16384x50.Idx → BitVec 32) (w : S39x48.Idx → F .f32) (pe : S1x50x48.Idx → F .f32)

/-- Call `q`'s tokens are the quarter of the tokens that starts at `q * 204800`. -/
theorem toksOf_read (q : Fin 4) (r : Nat) (h : r < 204800) :
    toksOf x q (ix1 ⟨r, h⟩) = x (ix2 ⟨(q.val * 204800 + r) / 50, by have := q.isLt; omega⟩ ⟨(q.val * 204800 + r) % 50, by omega⟩) := by
  have hs : ∀ (o : Nat) (ho : o ≤ 614400) (hsl : S819200.Slices ![o] S204800),
      extractStridedSlice S204800 ![o] (flatX x) hsl (ix1 ⟨r, h⟩) = flatX x (ix1 ⟨o + r, by omega⟩) := fun o ho hsl =>
    extractStridedSlice_apply _ _ _ _ _ fun a => by
      obtain rfl : a = (0 : Fin 1) := Subsingleton.elim _ _
      rfl
  have hq : toksOf x q (ix1 ⟨r, h⟩) = flatX x (ix1 ⟨q.val * 204800 + r, by have := q.isLt; omega⟩) := by
    match q with
    | 0 => exact hs 0 (by omega) slices_S819200_S204800_0
    | 1 => exact hs 204800 (by omega) slices_S819200_S204800_204800
    | 2 => exact hs 409600 (by omega) slices_S819200_S204800_409600
    | 3 => exact hs 614400 (by omega) slices_S819200_S204800_614400
  rw [hq]
  exact flat_read x _ _

/-- The table's entry for a token at a position: the token's embedding plus the position's. -/
theorem pay_read (t p c : Nat) (ht : t < 39) (hp : p < 50) (hc : c < 48) :
    k0_pay1 w (shapeCast S50x48 pe shapeCasts_S1x50x48_S50x48) (ix3 ⟨t, ht⟩ ⟨p, hp⟩ ⟨c, hc⟩)
      = FloatOps.addf (w (ix2 ⟨t, ht⟩ ⟨c, hc⟩)) (pe (ix3 0 ⟨p, hp⟩ ⟨c, hc⟩)) := by
  have e1 : broadcastTo S39x50x48 (shapeCast S39x1x48 w shapeCasts_S39x48_S39x1x48) broadcasts_S39x1x48_S39x50x48 (ix3 ⟨t, ht⟩ ⟨p, hp⟩ ⟨c, hc⟩)
      = w (ix2 ⟨t, ht⟩ ⟨c, hc⟩) := by
    refine (broadcastTo_apply _ _ _ (ix3 ⟨t, ht⟩ 0 ⟨c, hc⟩) fun a => ?_).trans ?_
    · match a with
      | ⟨0, _⟩ => rfl
      | ⟨1, _⟩ => rfl
      | ⟨2, _⟩ => rfl
    · refine shapeCast_apply _ _ _ _ ?_
      refine (Shape.rowMajor_val_two _).trans (Eq.trans ?_ (Shape.rowMajor_val_three _).symm)
      show t * 48 + c = (t * 1 + 0) * 48 + c
      omega
  have e2 : broadcastTo S39x50x48 (shapeCast S1x50x48 (shapeCast S50x48 (shapeCast S50x48 pe shapeCasts_S1x50x48_S50x48) shapeCasts_S50x48_S50x48) shapeCasts_S50x48_S1x50x48)
      broadcasts_S1x50x48_S39x50x48 (ix3 ⟨t, ht⟩ ⟨p, hp⟩ ⟨c, hc⟩) = pe (ix3 0 ⟨p, hp⟩ ⟨c, hc⟩) := by
    refine (broadcastTo_apply _ _ _ (ix3 0 ⟨p, hp⟩ ⟨c, hc⟩) fun a => ?_).trans ?_
    · match a with
      | ⟨0, _⟩ => rfl
      | ⟨1, _⟩ => rfl
      | ⟨2, _⟩ => rfl
    · have flat : (S50x48.rowMajor (ix2 ⟨p, hp⟩ ⟨c, hc⟩)).val = (S1x50x48.rowMajor (ix3 0 ⟨p, hp⟩ ⟨c, hc⟩)).val := by
        refine (Shape.rowMajor_val_two _).trans (Eq.trans ?_ (Shape.rowMajor_val_three _).symm)
        show p * 48 + c = (0 * 50 + p) * 48 + c
        omega
      refine (shapeCast_apply _ _ _ (ix2 ⟨p, hp⟩ ⟨c, hc⟩) flat).trans ?_
      refine (shapeCast_apply _ _ _ (ix2 ⟨p, hp⟩ ⟨c, hc⟩) rfl).trans ?_
      exact shapeCast_apply _ _ _ _ flat.symm
  exact congrArg₂ FloatOps.addf e1 e2

/-- A row of the padded table, in its first columns. -/
theorem rowsOf_read (t p c : Nat) (ht : t < 39) (hp : p < 50) (hc : c < 48) :
    rowsOf w pe (ix2 ⟨t * 50 + p, by omega⟩ ⟨c, by omega⟩) = FloatOps.addf (w (ix2 ⟨t, ht⟩ ⟨c, hc⟩)) (pe (ix3 0 ⟨p, hp⟩ ⟨c, hc⟩)) := by
  refine (pad_apply_of_inside _ _ _ _ _ _ _ _ (ix2 ⟨t * 50 + p, by omega⟩ ⟨c, hc⟩) fun a => ?_).trans
    ((box_read _ t p c ht hp hc).trans (pay_read w pe t p c ht hp hc))
  match a with
  | ⟨0, _⟩ => show t * 50 + p = 0 + (t * 50 + p) * (0 + 1); omega
  | ⟨1, _⟩ => show c = 0 + c * (0 + 1); omega

/-- Call `q`'s share of the result. -/
def part (g : Fin 4 → S204800x128.Idx → F .f32) (q : Fin 4) : S4096x50x48.Idx → F .f32 :=
  shapeCast S4096x50x48 (extractStridedSlice S204800x48 ![0, 0] (g q) slices_S204800x128_S204800x48_0_0) shapeCasts_S204800x48_S4096x50x48

/-- The joined result is the four shares in order. -/
theorem joined_eq (g : Fin 4 → S204800x128.Idx → F .f32) :
    joined g = concatenate S16384x50x48 0 (List.ofFn fun q : Fin 4 => (⟨S4096x50x48, part g q⟩ : (s : Shape) × (s.Idx → F .f32)))
      concatenates_S4096x50x48_S4096x50x48_S4096x50x48_S4096x50x48_S16384x50x48_d0 := rfl

/-- The joined result at batch `b` is its call's output at the row of the batch in the call and the position. -/
theorem joined_read (g : Fin 4 → S204800x128.Idx → F .f32) (q : Fin 4) (b p c : Nat) (hb : b < 16384) (hq : b / 4096 = q.val) (hp : p < 50) (hc : c < 48) :
    joined g (ix3 ⟨b, hb⟩ ⟨p, hp⟩ ⟨c, hc⟩) = g q (ix2 ⟨b % 4096 * 50 + p, by omega⟩ ⟨c, by omega⟩) := by
  rw [joined_eq]
  refine (concatenate_ofFn_apply (0 : Fin S16384x50x48.rank) (part g) _ rfl 4096 rfl (ix3 ⟨b, hb⟩ ⟨p, hp⟩ ⟨c, hc⟩) q hq
    (ix3 ⟨b % 4096, by omega⟩ ⟨p, hp⟩ ⟨c, hc⟩) rfl fun a ha => ?_).trans
    ((unflat_read _ (b % 4096) p c (by omega) hp hc).trans (cols_read (g q) (b % 4096 * 50 + p) c (by omega) hc))
  match a with
  | ⟨0, _⟩ => exact absurd rfl ha
  | ⟨1, _⟩ => rfl
  | ⟨2, _⟩ => rfl

end Values

/-! ## The calls' values -/

variable (m : (ℓ : Loc nD τ sig) → Buf (Elt F) ℓ)

/-- Tokens below the table's size leave every call's tokens below it. -/
theorem vals_ok (h : ∀ d i, (argX m d i).toNat < 39) : (vals m).Ok := fun d q j => by
  have e : ∃ (r : Nat) (hr : r < 204800), j = ix1 ⟨r, hr⟩ := ⟨(j 0).val, (j 0).isLt, by
    funext a
    obtain rfl : a = (0 : Fin 1) := Subsingleton.elim _ _
    rfl⟩
  obtain ⟨r, hr, rfl⟩ := e
  exact lt_of_eq_of_lt (congrArg BitVec.toNat (toksOf_read (argX m d) q r hr)) (h d _)

/-- The program's result at an index: the token's embedding plus the position's. -/
theorem joined_vals (h : ∀ d i, (argX m d i).toNat < 39) (d : Dev nD) (b : Fin 16384) (p : Fin 50) (c : Fin 48) :
    joined ((vals m).g d) (ix3 b p c)
      = FloatOps.addf (argW m d (ix2 ⟨(argX m d (ix2 b p)).toNat, h d _⟩ c)) (argP m d (ix3 0 p c)) := by
  obtain ⟨b, hb⟩ := b
  obtain ⟨p, hp⟩ := p
  obtain ⟨c, hc⟩ := c
  have hq : b / 4096 < 4 := by omega
  have hr : b % 4096 * 50 + p < 204800 := by omega
  refine (joined_read ((vals m).g d) ⟨b / 4096, hq⟩ b p c hb rfl hp hc).trans ?_
  have ex : (vals m).X d ⟨b / 4096, hq⟩ (b % 4096 * 50 + p) = argX m d (ix2 ⟨b, hb⟩ ⟨p, hp⟩) := by
    unfold Vals.X
    rw [dif_pos hr]
    refine (toksOf_read (argX m d) _ _ hr).trans ?_
    congr 2
    · refine Fin.ext ?_
      show (b / 4096 * 204800 + (b % 4096 * 50 + p)) / 50 = b
      omega
    · refine Fin.ext ?_
      show (b / 4096 * 204800 + (b % 4096 * 50 + p)) % 50 = p
      omega
  have ht := h d (ix2 ⟨b, hb⟩ ⟨p, hp⟩)
  show (vals m).Tb d (((vals m).X d ⟨b / 4096, hq⟩ (b % 4096 * 50 + p)).toNat * 50 + (b % 4096 * 50 + p) % 50) c = _
  rw [ex, show (b % 4096 * 50 + p) % 50 = p by omega]
  unfold Vals.Tb
  rw [dif_pos ⟨by omega, by omega⟩]
  exact rowsOf_read (argW m d) (argP m d) _ p c ht hp hc

end Cert.Proof

end
-- ==== Proof.RefValue.lean ====
/-
  The reference's result read at an index: for tokens below the table's size, the row of the embedding that the token
  names, plus the position's row.
-/
module

public import proofs.«01_k».proof.Proof.Gen.ReferenceIdeal.Run
public import Idealize.ShloMosaic.Lib.Pipeline.Value
public import Idealize.ShloMosaic.Lib.ReduceAll
public import Idealize.ShloMosaic.Lib.ValueIdxCore
public import Idealize.ShloMosaic.Lib.StableHlo.Predicate

@[expose] public section

noncomputable section

namespace Cert.Proof.Ref

open Cert.ReferenceIdeal Cert.ReferenceIdeal.Gen

open Idealize.ShloMosaic
open Idealize.ShloMosaic.ValueIdx Idealize.ShloMosaic.TcCoe Idealize.SL.Sem

variable {F : FTy → Type} [FloatOps F]
variable (x : S16384x50.Idx → BitVec 32) (w : S39x48.Idx → F .f32) (pe : S1x50x48.Idx → F .f32)

/-- A negative token counts from the table's end. -/
def wrapped : IVec S16384x50 32 :=
  select (cmpi .slt x (broadcastInDim S16384x50 ![] bcast_S_S16384x50 (constantI S_ 32 0#32)))
    (addi x (broadcastInDim S16384x50 ![] bcast_S_S16384x50 (constantI S_ 32 39#32))) x

/-- The tokens as rows to look up. -/
def look : IVec S16384x50x1 32 := broadcastInDim S16384x50x1 ![0, 1] bcast_S16384x50_S16384x50x1_0_1 (wrapped x)

/-- Which tokens name a row of the table. -/
def inside : IVec S16384x50 1 :=
  Host.reduce IntOp.andi
    (andi (cmpi .sge (look x) (broadcastInDim S16384x50x1 ![] bcast_S_S16384x50x1 (constantI S_ 32 0#32)))
      (cmpi .sle (look x) (broadcastInDim S16384x50x1 ![0, 1, 2] bcast_S1x1x1_S16384x50x1_0_1_2
        (broadcastInDim S1x1x1 ![2] bcast_S1_S1x1x1_2 (constantI S1 32 38#32)))))
    (constantI S_ 1 1#1) reducesTo_S16384x50x1_S16384x50_d2 h_S_

/-- The reference's result, from its arguments. -/
def out : S16384x50x48.Idx → F .f32 :=
  addf (F := F) (φ := .f32) (select (broadcastInDim S16384x50x48 ![0, 1] bcast_S16384x50_S16384x50x48_0_1 (inside x))
      (Host.gather gather_S39x48_S16384x50x1_S16384x50x48_2_0_n_n_0_2_148 w (look x))
      (broadcastInDim S16384x50x48 ![] bcast_S_S16384x50x48 (constant S_ .f32 0x7FC00000#32)))
    (broadcastInDim S16384x50x48 ![0, 1, 2] bcast_S1x50x48_S16384x50x48_0_1_2 pe)

/-- A selection where the condition holds. -/
theorem select_on {s : Shape} {α : Type} (k : IVec s 1) (a b : s.Idx → α) (j : s.Idx) (h : k j = 1#1) : select k a b j = a j := by
  unfold select Scalar.select
  rw [h]
  rfl

/-- A token in range is its own row. -/
theorem wrapped_read (j : S16384x50.Idx) (h : (x j).toNat < 39) : wrapped x j = x j := by
  have hc : IntOp.cmpi .slt (x j) 0#32 ≠ 1#1 := fun e => by
    have := IntOp.cmpi_slt.1 e
    rw [StableHlo.Predicate.toInt_eq_toNat_of_lt (by omega)] at this
    simp at this
    omega
  exact if_neg hc

/-- The row to look up for the token at `(b, p)`. -/
theorem look_read (k : S16384x50x1.Idx) (b : Fin 16384) (p : Fin 50) (hb : (k 0).val = b.val) (hp : (k 1).val = p.val)
    (h : (x (ix2 b p)).toNat < 39) : look x k = x (ix2 b p) := by
  refine (broadcastInDim_apply _ _ _ _ (ix2 b p) fun a => ?_).trans (wrapped_read x _ h)
  match a with
  | ⟨0, _⟩ => exact hb.symm
  | ⟨1, _⟩ => exact hp.symm

/-- Every token in range names a row of the table. -/
theorem inside_read (h : ∀ j, (x j).toNat < 39) (j : S16384x50.Idx) : inside x j = 1#1 := by
  refine Host.reduce_andi_one _ _ _ _ _ rfl fun k => ?_
  have hk : look x k = x (ix2 (k 0) (k 1)) := look_read x k (k 0) (k 1) rfl rfl (h _)
  have hx := h (ix2 (k 0) (k 1))
  refine IntOp.andi_eq_one.2 ⟨IntOp.cmpi_sge.2 ?_, IntOp.cmpi_sle.2 ?_⟩
  · rw [hk, StableHlo.Predicate.toInt_eq_toNat_of_lt (show (x (ix2 (k 0) (k 1))).toNat < 2 ^ 31 by omega)]
    show (0 : Int) ≤ _
    omega
  · rw [hk, StableHlo.Predicate.toInt_eq_toNat_of_lt (show (x (ix2 (k 0) (k 1))).toNat < 2 ^ 31 by omega)]
    show _ ≤ (38 : Int)
    omega

/-- The lookup reads the row its index names when that is in range. -/
theorem gather_read (idx : IVec S16384x50x1 32) (b : Fin 16384) (p : Fin 50) (c : Fin 48) (h : (idx (ix3 b p 0)).toNat < 39) :
    Host.gather gather_S39x48_S16384x50x1_S16384x50x48_2_0_n_n_0_2_148 w idx (ix3 b p c) = w (ix2 ⟨(idx (ix3 b p 0)).toNat, h⟩ c) := by
  unfold Host.gather
  refine congrArg w (funext fun a => Fin.ext ?_)
  show GatherDims.start _ _ _ a + GatherDims.batchCoord _ _ a + GatherDims.offCoord _ _ a = _
  rw [GatherDims.batchCoord_eq_zero _ _ _ List.not_mem_nil]
  have ha : a = (0 : Fin 2) ∨ a = (1 : Fin 2) :=
    match a with
    | ⟨0, _⟩ => Or.inl rfl
    | ⟨1, _⟩ => Or.inr rfl
  rcases ha with rfl | rfl
  · rw [GatherDims.offCoord_eq_zero _ _ _ (fun hm => ((GatherDims.mem_sKept _ _).mp hm).1 (List.mem_singleton.mpr rfl))]
    unfold GatherDims.start
    rw [dif_pos (show (0 : Fin 2) ∈ gather_S39x48_S16384x50x1_S16384x50x48_2_0_n_n_0_2_148.startIndexMap from List.mem_singleton.mpr rfl)]
    have hsi : GatherDims.siIdx gather_S39x48_S16384x50x1_S16384x50x48_2_0_n_n_0_2_148 (ix3 b p c)
        ⟨List.idxOf (0 : Fin 2) [0], List.idxOf_lt_length_iff.2 (List.mem_singleton.mpr rfl)⟩ = ix3 b p 0 := by
      funext e
      refine Fin.ext ?_
      match e with
      | ⟨0, _⟩ => rfl
      | ⟨1, _⟩ => rfl
      | ⟨2, _⟩ => rfl
    show min (idx (GatherDims.siIdx gather_S39x48_S16384x50x1_S16384x50x48_2_0_n_n_0_2_148 (ix3 b p c)
        ⟨List.idxOf (0 : Fin 2) [0], List.idxOf_lt_length_iff.2 (List.mem_singleton.mpr rfl)⟩)).toInt.toNat 38 = (idx (ix3 b p 0)).toNat
    rw [hsi, StableHlo.Predicate.toInt_eq_toNat_of_lt (by omega)]
    omega
  · unfold GatherDims.start
    rw [dif_neg (by decide)]
    show 0 + 0 + c.val = c.val
    omega

/-- The reference's result at an index: the token's embedding plus the position's. -/
theorem out_read (h : ∀ j, (x j).toNat < 39) (b : Fin 16384) (p : Fin 50) (c : Fin 48) :
    out x w pe (ix3 b p c) = FloatOps.addf (w (ix2 ⟨(x (ix2 b p)).toNat, h _⟩ c)) (pe (ix3 0 p c)) := by
  have hl : look x (ix3 b p 0) = x (ix2 b p) := look_read x _ b p rfl rfl (h _)
  have e1 : select (broadcastInDim S16384x50x48 ![0, 1] bcast_S16384x50_S16384x50x48_0_1 (inside x))
      (Host.gather gather_S39x48_S16384x50x1_S16384x50x48_2_0_n_n_0_2_148 w (look x))
      (broadcastInDim S16384x50x48 ![] bcast_S_S16384x50x48 (constant S_ .f32 0x7FC00000#32)) (ix3 b p c)
      = w (ix2 ⟨(x (ix2 b p)).toNat, h _⟩ c) := by
    have hm : broadcastInDim S16384x50x48 ![0, 1] bcast_S16384x50_S16384x50x48_0_1 (inside x) (ix3 b p c) = 1#1 := by
      refine (broadcastInDim_apply _ _ _ _ (ix2 b p) fun a => ?_).trans (inside_read x h _)
      match a with
      | ⟨0, _⟩ => rfl
      | ⟨1, _⟩ => rfl
    refine (select_on _ _ _ _ hm).trans ((gather_read w (look x) b p c (by rw [hl]; exact h _)).trans ?_)
    simp only [hl]
  have e2 : broadcastInDim S16384x50x48 ![0, 1, 2] bcast_S1x50x48_S16384x50x48_0_1_2 pe (ix3 b p c) = pe (ix3 0 p c) := by
    refine broadcastInDim_apply _ _ _ _ _ fun a => ?_
    match a with
    | ⟨0, _⟩ => rfl
    | ⟨1, _⟩ => rfl
    | ⟨2, _⟩ => rfl
  exact congrArg₂ FloatOps.addf e1 e2

/-- The reference's run: the result is `out` of the arguments, the arguments are unchanged and every counter ends at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v2)
          = out (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨h, Idealize.ShloMosaic.sem_eq_zero_of_no_sems (by decide) r.2⟩) (Cert.ReferenceIdeal.Value.run m ρ)

end Cert.Proof.Ref

end
-- ==== Proof.Bounds.lean ====
/-
  The precondition read token by token: every token is below the table's size.
-/
module

public import proofs.«01_k».proof.Proof.Gen.Pre_tokens
public import Idealize.ShloMosaic.Lib.ReduceAll

@[expose] public section

noncomputable section

namespace Cert.Proof

open Cert.Pre_tokens Cert.Pre_tokens.Gen Idealize.ShloMosaic

variable {F : FTy → Type} [FloatOps F]

/-- A scalar has one index. -/
instance scalar_one : Subsingleton S_.Idx := ⟨fun _ _ => funext fun a => a.elim0⟩

/-- A word that is non-negative and below 39, read signed, is below 39. -/
theorem word_lt (v : BitVec 32) (h0 : (0#32).toInt ≤ v.toInt) (h1 : v.toInt < (39#32).toInt) : v.toNat < 39 := by
  have e0 : (0#32 : BitVec 32).toInt = 0 := rfl
  have e1 : (39#32 : BitVec 32).toInt = 39 := rfl
  rw [e0] at h0
  rw [e1] at h1
  rw [BitVec.toInt_eq_toNat_cond] at h0 h1
  split at h0 <;> omega

/-- Under the precondition every token is below the table's size. -/
theorem tokens_lt (x : IVec S16384x50 32) (w : FVec F S39x48 .f32) (pe : FVec F S1x50x48 .f32)
    (h : Cert.Pre_tokens.fn x w pe = fun _ => 1#1) (j : S16384x50.Idx) : (x j).toNat < 39 := by
  have e := Host.reduce_andi_all _ _ _ _ (Shape.Idx.first h_S_) (congrFun h (Shape.Idx.first h_S_)) j
  obtain ⟨h0, h1⟩ := IntOp.andi_eq_one.1 e
  exact word_lt _ (IntOp.cmpi_sge.1 h0) (IntOp.cmpi_slt.1 h1)

end Cert.Proof

end
-- ==== Proof.Same.lean ====
/-
  The kernel's program and its idealization have one text: their label definitions are equal.
-/
module

public import proofs.«01_k».proof.Proof.Gen.Kernel
public import proofs.«01_k».proof.Proof.Gen.KernelIdeal

@[expose] public section

namespace Cert.Proof

open Cert.Kernel.Gen Cert.KernelIdeal.Gen Idealize.ShloMosaic

variable {F : FTy → Type} [FloatOps F]

set_option smartUnfolding false in
/-- The kernels' bodies are the same. -/
theorem bodies_eq : Cert.Kernel.defs₀ (F := F) = Cert.KernelIdeal.defs₀ (F := F) := rfl

/-- Every label is defined alike. -/
theorem defs_eq : Cert.Kernel.defs (F := F) = Cert.KernelIdeal.defs (F := F) := by
  unfold Cert.Kernel.defs Cert.KernelIdeal.defs
  rw [bodies_eq]
  rfl

end Cert.Proof
-- ==== Proof.lean ====
/-
  The certificate: the kernel's program runs without fault, leaves its arguments and ends with every counter at zero,
  at the machine's floats and at exact ones; and at exact floats its result is the reference's. Both programs' results
  are read at an index as the token's embedding plus the position's row.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_tokens
public import proofs.«01_k».proof.Proof.Run
public import proofs.«01_k».proof.Proof.Value
public import proofs.«01_k».proof.Proof.RefValue
public import proofs.«01_k».proof.Proof.Bounds
public import proofs.«01_k».proof.Proof.Same

@[expose] public section

noncomputable section

namespace Cert.Proof

open Idealize.ShloMosaic hiding ix1 ix2 ix3
open Idealize.ShloMosaic.ValueIdx Idealize.SL.Sem

/-- For any float values, where the tokens are in range: the kernel terminates without fault, its arguments unchanged and
    every counter at zero. -/
theorem frame_any {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (h : ∀ d i, (argX m d i).toNat < 39) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).1, h.2⟩) (run_main m ρ (vals_ok m h))

/-- The machine's run of the kernel: it terminates without fault, its arguments unchanged and every counter at zero. -/
theorem frame_kernel : Cert.quiescent_Kernel := fun m ρ hp => by
  rw [defs_eq]
  exact frame_any (F := Bits) m ρ fun d i => tokens_lt _ _ _ (hp d) i

/-- The same of the run at exact floats. -/
theorem frame_ideal : Cert.quiescent_KernelIdeal := fun m ρ hp => frame_any (F := Ideal) m ρ fun d i => tokens_lt _ _ _ (hp d) i

/-- The reference's run: it terminates without fault, its arguments unchanged and every counter at zero. -/
theorem frame_ref : Cert.quiescent_ReferenceIdeal := fun m ρ _ =>
  (θ_run Cert.ReferenceIdeal.defs _ _).mono (fun _ h => ⟨fun c => (h.1 c).2, h.2⟩) (Ref.run_main (F := Ideal) m ρ)

/-- The same where the tokens are in range. -/
theorem frame_ref_pre : Cert.quiescent_ReferenceIdeal_pre_tokens := fun m ρ _ => frame_ref m ρ trivial

/-- Where the tokens are in range, the kernel's result is the reference's, for any float values. -/
theorem value_eq {F : FTy → Type} [FloatOps F] (m : (ℓ : Loc Cert.KernelIdeal.nD Cert.KernelIdeal.τ Cert.KernelIdeal.sig) → Buf (Elt F) ℓ)
    (h : ∀ d i, (argX m d i).toNat < 39) (d : Dev Cert.KernelIdeal.nD) :
    joined ((vals m).g d) = Ref.out (argX m d) (argW m d) (argP m d) := by
  have e : ∀ (b : Fin 16384) (p : Fin 50) (c : Fin 48),
      joined ((vals m).g d) (ix3 b p c) = Ref.out (argX m d) (argW m d) (argP m d) (ix3 b p c) := fun b p c =>
    (joined_vals m h d b p c).trans (Ref.out_read (argX m d) (argW m d) (argP m d) (h d) b p c).symm
  funext j
  have ej : j = ix3 (j 0) (j 1) (j 2) := funext fun a =>
    match a with
    | ⟨0, _⟩ => rfl
    | ⟨1, _⟩ => rfl
    | ⟨2, _⟩ => rfl
  exact (congrArg _ ej).trans ((e _ _ _).trans (congrArg _ ej.symm))

/-- At exact floats, from memories that agree on the arguments, the kernel's result is the reference's. -/
theorem value : Cert.algebraic_KernelIdeal_ReferenceIdeal := fun m ρ m' ρ' hp hagree => by
  have ht : ∀ d i, (argX m d i).toNat < 39 := fun d i => tokens_lt _ _ _ (hp d) i
  refine ⟨fun c => Ref.out (argX m c) (argW m c) (argP m c), ?_, ?_⟩
  · exact (θ_run Cert.KernelIdeal.defs _ _).mono (fun _ h c => ⟨(h.1 c).2.trans (value_eq m ht c), (h.1 c).1⟩)
      (run_main (F := Ideal) m ρ (vals_ok m ht))
  · refine (θ_run Cert.ReferenceIdeal.defs _ _).mono (fun _ h c => ⟨(h.1 c).1.trans ?_, (h.1 c).2⟩) (Ref.run_main (F := Ideal) m' ρ')
    obtain ⟨h0, h1, h2⟩ := hagree c
    rw [h0, h1, h2]

/-- Everything the certificate claims. -/
theorem claim : Cert.Claim := ⟨Cert.Kernel.Gen.facts, Cert.KernelIdeal.Gen.facts, Cert.ReferenceIdeal.Gen.facts, Cert.Pre_tokens.Gen.facts,
  frame_kernel, frame_ideal, frame_ref, frame_ref_pre, trivial, value⟩

end Cert.Proof

end
